-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x16x128 : Shape := ⟨4, ![2, 1024, 16, 128]⟩
abbrev S2x8x16 : Shape := ⟨3, ![2, 8, 16]⟩
abbrev S2x1024x4x128 : Shape := ⟨4, ![2, 1024, 4, 128]⟩
abbrev S2x8x4 : Shape := ⟨3, ![2, 8, 4]⟩
abbrev S4x128 : Shape := ⟨2, ![4, 128]⟩
abbrev S_ : Shape := ⟨0, ![]⟩
abbrev S1 : Shape := ⟨1, ![1]⟩
abbrev S2x16384x128 : Shape := ⟨3, ![2, 16384, 128]⟩
abbrev S2x4096x128 : Shape := ⟨3, ![2, 4096, 128]⟩
abbrev S2x1024x2048 : Shape := ⟨3, ![2, 1024, 2048]⟩
abbrev S1x16384x128 : Shape := ⟨3, ![1, 16384, 128]⟩
abbrev S1x4096x128 : Shape := ⟨3, ![1, 4096, 128]⟩
abbrev S1x1024x512 : Shape := ⟨3, ![1, 1024, 512]⟩
abbrev S4096x128 : Shape := ⟨2, ![4096, 128]⟩
abbrev S1024x128 : Shape := ⟨2, ![1024, 128]⟩
abbrev S512x128 : Shape := ⟨2, ![512, 128]⟩
abbrev S16384x128 : Shape := ⟨2, ![16384, 128]⟩
abbrev S1x128 : Shape := ⟨2, ![1, 128]⟩
abbrev S8x128 : Shape := ⟨2, ![8, 128]⟩
abbrev S128x128 : Shape := ⟨2, ![128, 128]⟩
abbrev S1x1x1 : Shape := ⟨3, ![1, 1, 1]⟩
abbrev S64x8x128 : Shape := ⟨3, ![64, 8, 128]⟩
abbrev S1x8x128 : Shape := ⟨3, ![1, 8, 128]⟩
abbrev S1x128x128 : Shape := ⟨3, ![1, 128, 128]⟩
abbrev S256x128 : Shape := ⟨2, ![256, 128]⟩
abbrev S512x256 : Shape := ⟨2, ![512, 256]⟩
abbrev S512x384 : Shape := ⟨2, ![512, 384]⟩
abbrev S384x128 : Shape := ⟨2, ![384, 128]⟩
abbrev S512x512 : Shape := ⟨2, ![512, 512]⟩
abbrev S512x640 : Shape := ⟨2, ![512, 640]⟩
abbrev S640x128 : Shape := ⟨2, ![640, 128]⟩
abbrev S512x768 : Shape := ⟨2, ![512, 768]⟩
abbrev S768x128 : Shape := ⟨2, ![768, 128]⟩
abbrev S512x896 : Shape := ⟨2, ![512, 896]⟩
abbrev S896x128 : Shape := ⟨2, ![896, 128]⟩
abbrev S512x1024 : Shape := ⟨2, ![512, 1024]⟩

abbrev nBuf : Space → Nat
  | .hbm => 12
  | .vmem => 13
  | .smem => 3
  | _ => 0

abbrev bufTy : (tb : Table) → Fin (tcTables nBuf tb) → BufTy
  | .hbm, ⟨0, _⟩ => ⟨S2x1024x16x128, .i8⟩
  | .hbm, ⟨1, _⟩ => ⟨S2x8x16, .f32⟩
  | .hbm, ⟨2, _⟩ => ⟨S2x1024x4x128, .i8⟩
  | .hbm, ⟨3, _⟩ => ⟨S2x8x4, .f32⟩
  | .hbm, ⟨4, _⟩ => ⟨S2x1024x4x128, .i8⟩
  | .hbm, ⟨5, _⟩ => ⟨S4x128, .f32⟩
  | .hbm, ⟨6, _⟩ => ⟨S_, .f32⟩
  | .hbm, ⟨7, _⟩ => ⟨S1, .f32⟩
  | .hbm, ⟨8, _⟩ => ⟨S2x16384x128, .i8⟩
  | .hbm, ⟨9, _⟩ => ⟨S2x4096x128, .i8⟩
  | .hbm, ⟨10, _⟩ => ⟨S2x4096x128, .i8⟩
  | .hbm, ⟨11, _⟩ => ⟨S2x1024x2048, .bf16⟩
  | .local _ .vmem, ⟨0, _⟩ => ⟨S1x16384x128, .i8⟩
  | .local _ .vmem, ⟨1, _⟩ => ⟨S1x16384x128, .i8⟩
  | .local _ .vmem, ⟨2, _⟩ => ⟨S1x4096x128, .i8⟩
  | .local _ .vmem, ⟨3, _⟩ => ⟨S1x4096x128, .i8⟩
  | .local _ .vmem, ⟨4, _⟩ => ⟨S1x4096x128, .i8⟩
  | .local _ .vmem, ⟨5, _⟩ => ⟨S1x4096x128, .i8⟩
  | .local _ .vmem, ⟨6, _⟩ => ⟨S4x128, .f32⟩
  | .local _ .vmem, ⟨7, _⟩ => ⟨S1x1024x512, .bf16⟩
  | .local _ .vmem, ⟨8, _⟩ => ⟨S1x1024x512, .bf16⟩
  | .local _ .vmem, ⟨9, _⟩ => ⟨S4096x128, .i32⟩
  | .local _ .vmem, ⟨10, _⟩ => ⟨S1024x128, .fp8e4m3⟩
  | .local _ .vmem, ⟨11, _⟩ => ⟨S1024x128, .fp8e4m3⟩
  | .local _ .vmem, ⟨12, _⟩ => ⟨S512x128, .f32⟩
  | .local _ .smem, ⟨0, _⟩ => ⟨S2x8x16, .f32⟩
  | .local _ .smem, ⟨1, _⟩ => ⟨S2x8x4, .f32⟩
  | .local _ .smem, ⟨2, _⟩ => ⟨S1, .f32⟩
  | _, _ => ⟨S2x1024x16x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 4], ![false, false]⟩

def k0_off1 (i : grid0.Coords) : Fin 2 → Nat :=
  let arg1 : BitVec 32 := BitVec.ofNat 32 (i 1).val
  let v28 : Index := Scalar.indexCast arg1
  let c0_13 : Index := 0#32
  ![v28.toNat, 0]
def k0_off2 (i : grid0.Coords) (c0_i32_25 : BitVec 32) : Fin 2 → Nat :=
  let arg1 : BitVec 32 := BitVec.ofNat 32 (i 1).val
  let v76 : BitVec 32 := Scalar.addi c0_i32_25 arg1
  let v77 : Index := Scalar.indexCast v76
  let c0_26 : Index := 0#32
  ![v77.toNat, 0]
def k0_off3 (i : grid0.Coords) (c0_i32_30 : BitVec 32) : Fin 3 → Nat :=
  let arg0 : BitVec 32 := BitVec.ofNat 32 (i 0).val
  let v85 : Index := Scalar.indexCast arg0
  let c0_31 : Index := 0#32
  let arg1 : BitVec 32 := BitVec.ofNat 32 (i 1).val
  let c4_i32_29 : BitVec 32 := 4#32
  let v83 : BitVec 32 := Scalar.muli arg1 c4_i32_29
  let v84 : BitVec 32 := Scalar.addi v83 c0_i32_30
  let v86 : Index := Scalar.indexCast v84
  ![v85.toNat, 0, v86.toNat]
def k0_off4 (i : grid0.Coords) : Fin 3 → Nat :=
  let arg0 : BitVec 32 := BitVec.ofNat 32 (i 0).val
  let v119 : Index := Scalar.indexCast arg0
  let c0_45 : Index := 0#32
  let arg1 : BitVec 32 := BitVec.ofNat 32 (i 1).val
  let v120 : Index := Scalar.indexCast arg1
  ![v119.toNat, 0, v120.toNat]
def k0_off5 (i : grid0.Coords) (c0_i32_74 : BitVec 32) : Fin 3 → Nat :=
  let arg0 : BitVec 32 := BitVec.ofNat 32 (i 0).val
  let v178 : Index := Scalar.indexCast arg0
  let c1_75 : Index := 1#32
  let arg1 : BitVec 32 := BitVec.ofNat 32 (i 1).val
  let c4_i32_73 : BitVec 32 := 4#32
  let v176 : BitVec 32 := Scalar.muli arg1 c4_i32_73
  let v177 : BitVec 32 := Scalar.addi v176 c0_i32_74
  let v179 : Index := Scalar.indexCast v177
  ![v178.toNat, 1, v179.toNat]
def k0_off6 (i : grid0.Coords) : Fin 3 → Nat :=
  let arg0 : BitVec 32 := BitVec.ofNat 32 (i 0).val
  let v235 : Index := Scalar.indexCast arg0
  let c1_96 : Index := 1#32
  let arg1 : BitVec 32 := BitVec.ofNat 32 (i 1).val
  let v236 : Index := Scalar.indexCast arg1
  ![v235.toNat, 1, v236.toNat]
def k0_off7 (i : grid0.Coords) (c0_i32_131 : BitVec 32) : Fin 3 → Nat :=
  let arg0 : BitVec 32 := BitVec.ofNat 32 (i 0).val
  let v295 : Index := Scalar.indexCast arg0
  let c2_132 : Index := 2#32
  let arg1 : BitVec 32 := BitVec.ofNat 32 (i 1).val
  let c4_i32_130 : BitVec 32 := 4#32
  let v293 : BitVec 32 := Scalar.muli arg1 c4_i32_130
  let v294 : BitVec 32 := Scalar.addi v293 c0_i32_131
  let v296 : Index := Scalar.indexCast v294
  ![v295.toNat, 2, v296.toNat]
def k0_off8 (i : grid0.Coords) : Fin 3 → Nat :=
  let arg0 : BitVec 32 := BitVec.ofNat 32 (i 0).val
  let v375 : Index := Scalar.indexCast arg0
  let c2_161 : Index := 2#32
  let arg1 : BitVec 32 := BitVec.ofNat 32 (i 1).val
  let v376 : Index := Scalar.indexCast arg1
  ![v375.toNat, 2, v376.toNat]
def k0_off9 (i : grid0.Coords) (c0_i32_196 : BitVec 32) : Fin 3 → Nat :=
  let arg0 : BitVec 32 := BitVec.ofNat 32 (i 0).val
  let v435 : Index := Scalar.indexCast arg0
  let c3_197 : Index := 3#32
  let arg1 : BitVec 32 := BitVec.ofNat 32 (i 1).val
  let c4_i32_195 : BitVec 32 := 4#32
  let v433 : BitVec 32 := Scalar.muli arg1 c4_i32_195
  let v434 : BitVec 32 := Scalar.addi v433 c0_i32_196
  let v436 : Index := Scalar.indexCast v434
  ![v435.toNat, 3, v436.toNat]
def k0_off10 (i : grid0.Coords) : Fin 3 → Nat :=
  let arg0 : BitVec 32 := BitVec.ofNat 32 (i 0).val
  let v538 : Index := Scalar.indexCast arg0
  let c3_231 : Index := 3#32
  let arg1 : BitVec 32 := BitVec.ofNat 32 (i 1).val
  let v539 : Index := Scalar.indexCast arg1
  ![v538.toNat, 3, v539.toNat]
def k0_off11 (i : grid0.Coords) (c0_i32_266 : BitVec 32) : Fin 3 → Nat :=
  let arg0 : BitVec 32 := BitVec.ofNat 32 (i 0).val
  let v598 : Index := Scalar.indexCast arg0
  let c4 : Index := 4#32
  let arg1 : BitVec 32 := BitVec.ofNat 32 (i 1).val
  let c4_i32_265 : BitVec 32 := 4#32
  let v596 : BitVec 32 := Scalar.muli arg1 c4_i32_265
  let v597 : BitVec 32 := Scalar.addi v596 c0_i32_266
  let v599 : Index := Scalar.indexCast v597
  ![v598.toNat, 4, v599.toNat]
def k0_off12 (i : grid0.Coords) : Fin 3 → Nat :=
  let arg0 : BitVec 32 := BitVec.ofNat 32 (i 0).val
  let v724 : Index := Scalar.indexCast arg0
  let c4_307 : Index := 4#32
  let arg1 : BitVec 32 := BitVec.ofNat 32 (i 1).val
  let v725 : Index := Scalar.indexCast arg1
  ![v724.toNat, 4, v725.toNat]
def k0_off13 (i : grid0.Coords) (c0_i32_342 : BitVec 32) : Fin 3 → Nat :=
  let arg0 : BitVec 32 := BitVec.ofNat 32 (i 0).val
  let v784 : Index := Scalar.indexCast arg0
  let c5 : Index := 5#32
  let arg1 : BitVec 32 := BitVec.ofNat 32 (i 1).val
  let c4_i32_341 : BitVec 32 := 4#32
  let v782 : BitVec 32 := Scalar.muli arg1 c4_i32_341
  let v783 : BitVec 32 := Scalar.addi v782 c0_i32_342
  let v785 : Index := Scalar.indexCast v783
  ![v784.toNat, 5, v785.toNat]
def k0_off14 (i : grid0.Coords) : Fin 3 → Nat :=
  let arg0 : BitVec 32 := BitVec.ofNat 32 (i 0).val
  let v933 : Index := Scalar.indexCast arg0
  let c5_389 : Index := 5#32
  let arg1 : BitVec 32 := BitVec.ofNat 32 (i 1).val
  let v934 : Index := Scalar.indexCast arg1
  ![v933.toNat, 5, v934.toNat]
def k0_off15 (i : grid0.Coords) (c0_i32_423 : BitVec 32) : Fin 3 → Nat :=
  let arg0 : BitVec 32 := BitVec.ofNat 32 (i 0).val
  let v993 : Index := Scalar.indexCast arg0
  let c6 : Index := 6#32
  let arg1 : BitVec 32 := BitVec.ofNat 32 (i 1).val
  let c4_i32_422 : BitVec 32 := 4#32
  let v991 : BitVec 32 := Scalar.muli arg1 c4_i32_422
  let v992 : BitVec 32 := Scalar.addi v991 c0_i32_423
  let v994 : Index := Scalar.indexCast v992
  ![v993.toNat, 6, v994.toNat]
def k0_off16 (i : grid0.Coords) : Fin 3 → Nat :=
  let arg0 : BitVec 32 := BitVec.ofNat 32 (i 0).val
  let v1165 : Index := Scalar.indexCast arg0
  let c6_477 : Index := 6#32
  let arg1 : BitVec 32 := BitVec.ofNat 32 (i 1).val
  let v1166 : Index := Scalar.indexCast arg1
  ![v1165.toNat, 6, v1166.toNat]
def k0_off17 (i : grid0.Coords) (c0_i32_512 : BitVec 32) : Fin 3 → Nat :=
  let arg0 : BitVec 32 := BitVec.ofNat 32 (i 0).val
  let v1225 : Index := Scalar.indexCast arg0
  let c7 : Index := 7#32
  let arg1 : BitVec 32 := BitVec.ofNat 32 (i 1).val
  let c4_i32_511 : BitVec 32 := 4#32
  let v1223 : BitVec 32 := Scalar.muli arg1 c4_i32_511
  let v1224 : BitVec 32 := Scalar.addi v1223 c0_i32_512
  let v1226 : Index := Scalar.indexCast v1224
  ![v1225.toNat, 7, v1226.toNat]
def k0_off18 (i : grid0.Coords) : Fin 3 → Nat :=
  let arg0 : BitVec 32 := BitVec.ofNat 32 (i 0).val
  let v1420 : Index := Scalar.indexCast arg0
  let c7_572 : Index := 7#32
  let arg1 : BitVec 32 := BitVec.ofNat 32 (i 1).val
  let v1421 : Index := Scalar.indexCast arg1
  ![v1420.toNat, 7, v1421.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x8x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S2x8x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16384x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x1024x16x128 : Shape := ⟨4, ![2, 1024, 16, 128]⟩
abbrev S2x8x16 : Shape := ⟨3, ![2, 8, 16]⟩
abbrev S2x1024x4x128 : Shape := ⟨4, ![2, 1024, 4, 128]⟩
abbrev S2x8x4 : Shape := ⟨3, ![2, 8, 4]⟩
abbrev S4x128 : Shape := ⟨2, ![4, 128]⟩
abbrev S_ : Shape := ⟨0, ![]⟩
abbrev S1x1 : Shape := ⟨2, ![1, 1]⟩
abbrev S2x1024x2048 : Shape := ⟨3, ![2, 1024, 2048]⟩
abbrev S2x1024x4x4x128 : Shape := ⟨5, ![2, 1024, 4, 4, 128]⟩
abbrev S2x4x4x1024x128 : Shape := ⟨5, ![2, 4, 4, 1024, 128]⟩
abbrev S2x4x1024x128 : Shape := ⟨4, ![2, 4, 1024, 128]⟩
abbrev S2x8x1x16 : Shape := ⟨4, ![2, 8, 1, 16]⟩
abbrev S2x8x128x16 : Shape := ⟨4, ![2, 8, 128, 16]⟩
abbrev S2x1024x16 : Shape := ⟨3, ![2, 1024, 16]⟩
abbrev S2x16x1024 : Shape := ⟨3, ![2, 16, 1024]⟩
abbrev S2x4x4x1024 : Shape := ⟨4, ![2, 4, 4, 1024]⟩
abbrev S2x8x1x4 : Shape := ⟨4, ![2, 8, 1, 4]⟩
abbrev S2x8x128x4 : Shape := ⟨4, ![2, 8, 128, 4]⟩
abbrev S2x1024x4 : Shape := ⟨3, ![2, 1024, 4]⟩
abbrev S2x4x1024 : Shape := ⟨3, ![2, 4, 1024]⟩
abbrev S4x1x128 : Shape := ⟨3, ![4, 1, 128]⟩
abbrev S4x4x128 : Shape := ⟨3, ![4, 4, 128]⟩
abbrev S16x128 : Shape := ⟨2, ![16, 128]⟩
abbrev S4x4x1x128 : Shape := ⟨4, ![4, 4, 1, 128]⟩
abbrev S2x4x4x1024x1024 : Shape := ⟨5, ![2, 4, 4, 1024, 1024]⟩
abbrev S2x4x4x1024x1 : Shape := ⟨5, ![2, 4, 4, 1024, 1]⟩
abbrev S2x4x1x1x1024 : Shape := ⟨5, ![2, 4, 1, 1, 1024]⟩
abbrev S1024x1024 : Shape := ⟨2, ![1024, 1024]⟩
abbrev S1x1x1x1024x1024 : Shape := ⟨5, ![1, 1, 1, 1024, 1024]⟩
abbrev S1x4x4x1x128 : Shape := ⟨5, ![1, 4, 4, 1, 128]⟩

abbrev nBuf : Space → Nat
  | .hbm => 9
  | .vmem => 8
  | .smem => 0
  | _ => 0

abbrev bufTy : (tb : Table) → Fin (tcTables nBuf tb) → BufTy
  | .hbm, ⟨0, _⟩ => ⟨S2x1024x16x128, .i8⟩
  | .hbm, ⟨1, _⟩ => ⟨S2x8x16, .f32⟩
  | .hbm, ⟨2, _⟩ => ⟨S2x1024x4x128, .i8⟩
  | .hbm, ⟨3, _⟩ => ⟨S2x8x4, .f32⟩
  | .hbm, ⟨4, _⟩ => ⟨S2x1024x4x128, .i8⟩
  | .hbm, ⟨5, _⟩ => ⟨S4x128, .f32⟩
  | .hbm, ⟨6, _⟩ => ⟨S_, .f32⟩
  | .hbm, ⟨7, _⟩ => ⟨S1x1, .f32⟩
  | .hbm, ⟨8, _⟩ => ⟨S2x1024x2048, .bf16⟩
  | .local _ .vmem, ⟨0, _⟩ => ⟨S2x1024x16x128, .i8⟩
  | .local _ .vmem, ⟨1, _⟩ => ⟨S2x8x16, .f32⟩
  | .local _ .vmem, ⟨2, _⟩ => ⟨S2x1024x4x128, .i8⟩
  | .local _ .vmem, ⟨3, _⟩ => ⟨S2x8x4, .f32⟩
  | .local _ .vmem, ⟨4, _⟩ => ⟨S2x1024x4x128, .i8⟩
  | .local _ .vmem, ⟨5, _⟩ => ⟨S4x128, .f32⟩
  | .local _ .vmem, ⟨6, _⟩ => ⟨S1x1, .f32⟩
  | .local _ .vmem, ⟨7, _⟩ => ⟨S2x1024x2048, .bf16⟩
  | _, _ => ⟨S2x1024x16x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x16x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x4x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x8x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x4x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRuns.lean ====
/- What the whole-body runs of the kernel share: the branch condition in closed form over the grid, the
   staging and scratch memrefs of a grid point, and the scratch buffers a point receives. -/
module

public import proofs.«01_k».proof.Proof.Gen.Kernel.Launch
public import proofs.«01_k».proof.Proof.Gen.Kernel.Skeleton
public import proofs.«01_k».proof.Proof.Gen.Kernel.Frame
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-! ## The windows' blocks -/

/-! ## The frame claim's post from the frame run's -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- Each window's current staging memref at point `t`, spelled as the pipeline passes it (`bodyAt0`), and its wholeness. -/
abbrev ms0_0 (t : Fin cfg0.N) : Memref sig .tc .smem S2x8x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x8x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16384x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4096x128 .i32 := Memref.whole cc0_scratch0
abbrev scM0_1 : Memref sig .tc .vmem S1024x128 .fp8e4m3 := Memref.whole cc0_scratch1
abbrev scM0_2 : Memref sig .tc .vmem S1024x128 .fp8e4m3 := Memref.whole cc0_scratch2
abbrev scM0_3 : Memref sig .tc .vmem S512x128 .f32 := Memref.whole cc0_scratch3
/-- The scratch `arg10` the kernel carries between points, as a view: what it holds is stated through it. -/
abbrev VS0_0 : View sig .tc .vmem S4096x128 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelRunA.lean ====
/- The whole-body run of the kernel at the points whose group coordinate is 0, where the body stores the
   query words it then reads. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2260000 in
/-- What the body's stores leave in each output's staging memref, as pieces (last first) IN CASE A (`scf.if` 0 taken: points 0, 4), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_A (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) :
    { LS0 : List (View.Piece (Elt F) S4096x128 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ f, arg10.view.loc (c : Thread nD τ) ↦[arg10.view.set]{fullShare} arg10.view.writes (Elt F) f LS0) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__body_eq_skeleton]; unfold cc0__body_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KernelRunB.lean ====
/- The whole-body run of the kernel at the points whose group coordinate is not 0, where the body reads the
   query words an earlier point of the batch left. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2244000 in
/-- What the body's stores leave in each output's staging memref, as pieces (last first) IN CASE B (`scf.if` 0 not taken: points 1, 2, 3, 5, 6, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (7) at anything, handed back at some contents nothing names. -/
noncomputable def kernelRun0_B (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : ¬cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (xs0 : Vec F S4096x128 .i32) :
    { LS0 : List (View.Piece (Elt F) S4096x128 .i32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K } := by
  refine ⟨[], fun E K => ?run⟩
  case run =>
    simp only [cc0__body_eq_skeleton]; unfold cc0__body_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [HS0]
    · iexists _; isplitr; · ipureintro; exact harg10.read_unread _
      iexact HS0
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KernelFrame.lean ====
/- The frame certificate of the kernel: what a point leaves in the output block and in the carried query
   words, the proof data of the pipelined call, the obligation of its body and the run of the whole program. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 1 piece of `S4096x128` tiling it (Lib/Ring.lean `Piece.tiledL`). -/
theorem scover0_A_0 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 S4096x128.size (by sl_kernel_rfl) y

/-- What case A leaves in scratch `arg10`: its pieces read back over junk. -/
def sout0_A_0 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) : Vec F S4096x128 .i32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1)

/-- Case B stores nothing into scratch `arg10`: it holds what the point before left. -/
def sout0_B_0 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : ¬cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (xs0 : Vec F S4096x128 .i32) : Vec F S4096x128 .i32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S4096x128 .i32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩)
  | n + 1, hn =>
    if h0 : (n + 1) % 4 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn))

/-- `outsAt0` at a point of case A: that case's contents. -/
theorem outsAt0_A (c : Dev nD) (t : Fin cfg0.N) (h0 : t.val % 4 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ d, owns (c : Thread nD τ) (ms0_7 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases hz : t.val = 0
    · rw [PhiS_castSucc m c t, PhiS_zero m c _ _ hz, PhiA0_eq]
      rw [outsAt0_A m c t h0]
      unfold sout0_A_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [PhiS_castSucc m c t, PhiS_pos m c _ _ hz]
      rw [outsAt0_A m c t h0]
      unfold sout0_A_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      isplitl [HS2]; · iexact HS2
      isplitl [HS3]; · iexact HS3
      iintro ⟨H0, H1, H2, H3, H4, H5, H6, H7, ⟨%es0, HS0⟩, HS1, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold sout0_B_0
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, H7, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The frame claim's post from the run's, for proof data that may leave an output's contents unnamed: each argument array
    is either an input array of the pipeline, which ends as it began, or a buffer the pipeline does not touch. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      (Pipeline.RDat.FramePost.arr_in h c 0 rfl).trans ((hA c 0).trans (V_main_arg1 m c)),
      ((h c).2 main_arg2 (Pipeline.mem_restRefs_of main_arg2 (by decide) (by decide))).trans (V_main_arg2 m c),
      (Pipeline.RDat.FramePost.arr_in h c 1 rfl).trans ((hA c 1).trans (V_main_arg3 m c)),
      ((h c).2 main_arg4 (Pipeline.mem_restRefs_of main_arg4 (by decide) (by decide))).trans (V_main_arg4 m c),
      (Pipeline.RDat.FramePost.arr_in h c 6 rfl).trans ((hA c 6).trans (V_main_arg5 m c)),
      ((h c).2 main_arg6 (Pipeline.mem_restRefs_of main_arg6 (by decide) (by decide))).trans (V_main_arg6 m c)⟩) h

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KernelIdealRuns.lean ====
/- What the whole-body runs of the kernel share: the branch condition in closed form over the grid, the
   staging and scratch memrefs of a grid point, and the scratch buffers a point receives. -/
module

public import proofs.«01_k».proof.Proof.Gen.KernelIdeal.Launch
public import proofs.«01_k».proof.Proof.Gen.KernelIdeal.Skeleton
public import proofs.«01_k».proof.Proof.Gen.KernelIdeal.Frame
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-! ## The windows' blocks -/

/-! ## The frame claim's post from the frame run's -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 4) — by arithmetic of the point. -/
theorem hcond0_0 : ∀ t : Fin cfg0.N, cond0_0 (grid0.coords t) ↔ t.val % 4 = 0 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 4 = 0)

/-! ## The kernel body on any staging memrefs: a subtype the run finds -/

/-- One staging buffer of output window 7, through which its contents are stated (`View.read_writes_of_cover`: the
    choice does not matter). -/
abbrev VO0_7 : View sig .tc .vmem S1x1024x512 .bf16 := (Memref.whole cc0_stg7_0 : Memref sig .tc .vmem S1x1024x512 .bf16).view
/-- Each window's current staging memref at point `t`, spelled as the pipeline passes it (`bodyAt0`), and its wholeness. -/
abbrev ms0_0 (t : Fin cfg0.N) : Memref sig .tc .smem S2x8x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S2x8x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16384x128 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x4096x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4096x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x512 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4096x128 .i32 := Memref.whole cc0_scratch0
abbrev scM0_1 : Memref sig .tc .vmem S1024x128 .fp8e4m3 := Memref.whole cc0_scratch1
abbrev scM0_2 : Memref sig .tc .vmem S1024x128 .fp8e4m3 := Memref.whole cc0_scratch2
abbrev scM0_3 : Memref sig .tc .vmem S512x128 .f32 := Memref.whole cc0_scratch3
/-- The scratch `arg10` the kernel carries between points, as a view: what it holds is stated through it. -/
abbrev VS0_0 : View sig .tc .vmem S4096x128 .i32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Gen

end
-- ==== Proof.KernelIdealRunA.lean ====
/- The whole-body run of the kernel at the points whose group coordinate is 0, where the body stores the
   query words it then reads. -/
module

public import proofs.«01_k».proof.Proof.KernelIdealRuns

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2260000 in
/-- What the body's stores leave in each output's staging memref, as pieces (last first) IN CASE A (`scf.if` 0 taken: points 0, 4), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) :
    Σ' (L7 : List (View.Piece (Elt F) S1x1024x512 .bf16)), Σ' (LS0 : List (View.Piece (Elt F) S4096x128 .i32)), Σ' (LT1 : List (View.Piece (Elt F) S1024x128 .fp8e4m3)), Σ' (LT2 : List (View.Piece (Elt F) S1024x128 .fp8e4m3)), { LT3 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, fun E K => ?run⟩
  case run =>
    simp only [cc0__body_eq_skeleton]; unfold cc0__body_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Gen

end
-- ==== Proof.KernelIdealRunB.lean ====
/- The whole-body run of the kernel at the points whose group coordinate is not 0, where the body reads the
   query words an earlier point of the batch left. -/
module

public import proofs.«01_k».proof.Proof.KernelIdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2244000 in
/-- What the body's stores leave in each output's staging memref, as pieces (last first) IN CASE B (`scf.if` 0 not taken: points 1, 2, 3, 5, 6, 7), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : ¬cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (xs0 : Vec F S4096x128 .i32) :
    Σ' (L7 : List (View.Piece (Elt F) S1x1024x512 .bf16)), Σ' (LS0 : List (View.Piece (Elt F) S4096x128 .i32)), Σ' (LT1 : List (View.Piece (Elt F) S1024x128 .fp8e4m3)), Σ' (LT2 : List (View.Piece (Elt F) S1024x128 .fp8e4m3)), { LT3 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xs0 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xs0 ∗ (∃ f, arg11.view.loc (c : Thread nD τ) ↦[arg11.view.set]{fullShare} arg11.view.writes (Elt F) f LT1) ∗ (∃ f, arg12.view.loc (c : Thread nD τ) ↦[arg12.view.set]{fullShare} arg12.view.writes (Elt F) f LT2) ∗ (∃ f, arg13.view.loc (c : Thread nD τ) ↦[arg13.view.set]{fullShare} arg13.view.writes (Elt F) f LT3)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13) K } := by
  refine ⟨?_, [], ?_, ?_, ?_, fun E K => ?run⟩
  case run =>
    simp only [cc0__body_eq_skeleton]; unfold cc0__body_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _; isplitr; · ipureintro; exact harg10.read_unread _
      iexact HS0
    isplitl [HS1]; · iexists _; iexact HS1
    isplitl [HS2]; · iexists _; iexact HS2
    iexists _; iexact HS3

end Cert.KernelIdeal.Gen

end
-- ==== Proof.KernelIdealFrame.lean ====
/- The frame certificate of the kernel: what a point leaves in the output block and in the carried query
   words, the proof data of the pipelined call, the obligation of its body and the run of the whole program. -/
module

public import proofs.«01_k».proof.Proof.KernelIdealRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 tile its block (32 stores of `S1x128x128`, checked by the kernel's evaluation: Lib/Ring.lean `Piece.tiledL`, linear in the pieces, through a loop's `@[irreducible]` trip theorem too), so they cover it. -/
theorem cover0_A_7 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (y : S1x1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 S1x128x128.size (by sl_kernel_rfl) y

/-- What case A leaves in output 7's staging buffer: its pieces read back over junk. -/
def out0_A_7 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) : Vec F S1x1024x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).1)

/-- Case A's pieces for scratch `arg10`, which the kernel carries between points, cover it: 1 piece of `S4096x128` tiling it (Lib/Ring.lean `Piece.tiledL`). -/
theorem scover0_A_0 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (y : S4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1 S4096x128.size (by sl_kernel_rfl) y

/-- What case A leaves in scratch `arg10`: its pieces read back over junk. -/
def sout0_A_0 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) : Vec F S4096x128 .i32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6).2.1)

/-- Case B's pieces for output 7 tile its block (32 stores of `S1x128x128`, checked by the kernel's evaluation: Lib/Ring.lean `Piece.tiledL`, linear in the pieces, through a loop's `@[irreducible]` trip theorem too), so they cover it. -/
theorem cover0_B_7 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : ¬cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (xs0 : Vec F S4096x128 .i32) (y : S1x1024x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1 S1x128x128.size (by sl_kernel_rfl) y

/-- What case B leaves in output 7's staging buffer: its pieces read back over junk. -/
def out0_B_7 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : ¬cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (xs0 : Vec F S4096x128 .i32) : Vec F S1x1024x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1)

/-- Case B stores nothing into scratch `arg10`: it holds what the point before left. -/
def sout0_B_0 (c : Dev nD) (i : grid0.Coords) (arg2 : Memref sig .tc .smem S2x8x16 .f32) (harg2 : arg2.IsWhole) (arg3 : Memref sig .tc .smem S2x8x4 .f32) (harg3 : arg3.IsWhole) (arg4 : Memref sig .tc .smem S1 .f32) (harg4 : arg4.IsWhole) (arg5 : Memref sig .tc .vmem S1x16384x128 .i8) (harg5 : arg5.IsWhole) (arg6 : Memref sig .tc .vmem S1x4096x128 .i8) (harg6 : arg6.IsWhole) (arg7 : Memref sig .tc .vmem S1x4096x128 .i8) (harg7 : arg7.IsWhole) (arg8 : Memref sig .tc .vmem S4x128 .f32) (harg8 : arg8.IsWhole) (arg9 : Memref sig .tc .vmem S1x1024x512 .bf16) (harg9 : arg9.IsWhole) (arg10 : Memref sig .tc .vmem S4096x128 .i32) (harg10 : arg10.IsWhole) (arg11 : Memref sig .tc .vmem S1024x128 .fp8e4m3) (harg11 : arg11.IsWhole) (arg12 : Memref sig .tc .vmem S1024x128 .fp8e4m3) (harg12 : arg12.IsWhole) (arg13 : Memref sig .tc .vmem S512x128 .f32) (harg13 : arg13.IsWhole) (hc0 : ¬cond0_0 i)
    (x0 : Vec F S2x8x16 .f32) (x1 : Vec F S2x8x4 .f32) (x2 : Vec F S1 .f32) (x3 : Vec F S1x16384x128 .i8) (x4 : Vec F S1x4096x128 .i8) (x5 : Vec F S1x4096x128 .i8) (x6 : Vec F S4x128 .f32) (xs0 : Vec F S4096x128 .i32) : Vec F S4096x128 .i32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1024x512 .bf16 × Vec F S4096x128 .i32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 4 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2)

/-- `outsAt0` at a point of case A: that case's contents. -/
theorem outsAt0_A (c : Dev nD) (t : Fin cfg0.N) (h0 : t.val % 4 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases hz : t.val = 0
    · rw [PhiS_castSucc m c t, PhiS_zero m c _ _ hz, PhiA0_eq]
      rw [outsAt0_A m c t h0]
      unfold out0_A_7 sout0_A_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, ⟨%e7, H7⟩, ⟨%es0, HS0⟩, ⟨%fT1, HS1⟩, ⟨%fT2, HS2⟩, ⟨%fT3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _)
    · rw [PhiS_castSucc m c t, PhiS_pos m c _ _ hz]
      rw [outsAt0_A m c t h0]
      unfold out0_A_7 sout0_A_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexists _; iexact HS0
      isplitl [HS1]; · iexact HS1
      isplitl [HS2]; · iexact HS2
      isplitl [HS3]; · iexact HS3
      iintro ⟨H0, H1, H2, H3, H4, H5, H6, ⟨%e7, H7⟩, ⟨%es0, HS0⟩, ⟨%fT1, HS1⟩, ⟨%fT2, HS2⟩, ⟨%fT3, HS3⟩⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · iexists _; unfold owns; iexists _; isplitr
            swap; · iexact HS2
            ipureintro; rfl
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _)
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold out0_B_7 sout0_B_0; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      isplitl [HS3]; · iexact HS3
      iintro ⟨H0, H1, H2, H3, H4, H5, H6, ⟨%e7, H7⟩, HS0, ⟨%fT1, HS1⟩, ⟨%fT2, HS2⟩, ⟨%fT3, HS3⟩⟩
      isplitl [HS0 HS1 HS2 HS3 Hg]
      · isplitl [HS0 HS1 HS2 HS3]
        · isplitl [HS0]
          · iexact HS0
          isplitl [HS1]
          · iexists _; unfold owns; iexists _; isplitr
            swap; · iexact HS1
            ipureintro; rfl
          isplitl [HS2]
          · iexists _; unfold owns; iexists _; isplitr
            swap; · iexact HS2
            ipureintro; rfl
          iexists _; unfold owns; iexists _; isplitr
          swap; · iexact HS3
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Weights.lean ====
/- The arithmetic of one run of 128 query tokens, at an index: the weights of a 512x128 piece of scores, masked or
   not, and the weighted sum of the values over the pieces of a run. -/
module

public import proofs.«01_k».proof.Proof.Gen.KernelIdeal.Skeleton
public import Idealize.ShloMosaic.Lib.Pointwise
public import Idealize.ShloMosaic.Lib.WordCmp

@[expose] public section

set_option maxRecDepth 16384

noncomputable section

namespace Cert.KernelIdeal.Value

open Idealize.ShloMosaic Idealize.ShloMosaic.TcCoe Idealize.SL.Sem
open Cert.KernelIdeal Cert.KernelIdeal.Gen

section generic
variable {F : FTy → Type} [FloatOps F]

/-- The weights of a 512x128 piece of scores under the causal mask. -/
def chunkM (invp : F .f32) (mask : IVec S512x128 1) (qt : FVec F S8x128 .f32) (s : FVec F S512x128 .f32) (ks : F .f32) :
    FVec F S512x128 .fp8e4m3 :=
  truncf .fp8e4m3
    (minimumf (broadcast S512x128 (Scalar.ofBits .f32 0x43E00000#32))
      (maximumf (broadcast S512x128 (Scalar.ofBits .f32 0x00000000#32))
        (mulf
          (select mask
            (logistic (shapeCast S512x128
              (addf (mulf (shapeCast S64x8x128 s shapeCasts_S512x128_S64x8x128)
                  (broadcastTo S64x8x128
                    (shapeCast S1x8x128 (mulf qt (broadcast S8x128 (Scalar.mulf ks (Scalar.ofBits .f32 0x3DB504F3#32)))) shapeCasts_S8x128_S1x8x128)
                    broadcasts_S1x8x128_S64x8x128))
                (broadcast S64x8x128 (Scalar.ofBits .f32 0xC0DDCE9E#32))) shapeCasts_S64x8x128_S512x128))
            (broadcast S512x128 (Scalar.ofBits .f32 0x00000000#32)))
          (broadcast S512x128 invp)))) bitsLt_fp8e4m3_f32

/-- Left half of a 512x256 piece of scores. -/
def lo (s : FVec F S512x256 .f32) : FVec F S512x128 .f32 := extractStridedSlice S512x128 ![0, 0] s slices_S512x256_o0_0_S512x128
/-- Right half of a 512x256 piece of scores. -/
def hi (s : FVec F S512x256 .f32) : FVec F S512x128 .f32 := extractStridedSlice S512x128 ![0, 128] s slices_S512x256_o0_128_S512x128

/-- Weighted sum over 1 piece of weights, scaled per column. -/
def fin1 (osc : FVec F S1x128 .f32) (w0 : FVec F S512x128 .fp8e4m3) (vh : Vec F S128x128 .fp8e4m3) : FVec F S512x128 .f32 :=
  mulf (matmul dot_S512x128_S128x128_S512x128_1_0_0_1_n_n none w0 vh (constant S512x128 .f32 0x00000000#32))
    (broadcastTo S512x128 osc broadcasts_S1x128_S512x128)
/-- Weighted sum over 2 pieces of weights, scaled per column. -/
def fin2 (osc : FVec F S1x128 .f32) (w0 w1 : FVec F S512x128 .fp8e4m3) (vh : Vec F S256x128 .fp8e4m3) : FVec F S512x128 .f32 :=
  mulf (matmul dot_S512x256_S256x128_S512x128_1_0_0_1_n_n none (concatenate S512x256 1 [⟨S512x128, w0⟩, ⟨S512x128, w1⟩] concatenates_S512x128_S512x128_S512x256_d1) vh (constant S512x128 .f32 0x00000000#32))
    (broadcastTo S512x128 osc broadcasts_S1x128_S512x128)
/-- Weighted sum over 3 pieces of weights, scaled per column. -/
def fin3 (osc : FVec F S1x128 .f32) (w0 w1 w2 : FVec F S512x128 .fp8e4m3) (vh : Vec F S384x128 .fp8e4m3) : FVec F S512x128 .f32 :=
  mulf (matmul dot_S512x384_S384x128_S512x128_1_0_0_1_n_n none (concatenate S512x384 1 [⟨S512x128, w0⟩, ⟨S512x128, w1⟩, ⟨S512x128, w2⟩] concatenates_S512x128_S512x128_S512x128_S512x384_d1) vh (constant S512x128 .f32 0x00000000#32))
    (broadcastTo S512x128 osc broadcasts_S1x128_S512x128)
/-- Weighted sum over 4 pieces of weights, scaled per column. -/
def fin4 (osc : FVec F S1x128 .f32) (w0 w1 w2 w3 : FVec F S512x128 .fp8e4m3) (vh : Vec F S512x128 .fp8e4m3) : FVec F S512x128 .f32 :=
  mulf (matmul dot_S512x512_S512x128_S512x128_1_0_0_1_n_n none (concatenate S512x512 1 [⟨S512x128, w0⟩, ⟨S512x128, w1⟩, ⟨S512x128, w2⟩, ⟨S512x128, w3⟩] concatenates_S512x128_S512x128_S512x128_S512x128_S512x512_d1) vh (constant S512x128 .f32 0x00000000#32))
    (broadcastTo S512x128 osc broadcasts_S1x128_S512x128)
/-- Weighted sum over 5 pieces of weights, scaled per column. -/
def fin5 (osc : FVec F S1x128 .f32) (w0 w1 w2 w3 w4 : FVec F S512x128 .fp8e4m3) (vh : Vec F S640x128 .fp8e4m3) : FVec F S512x128 .f32 :=
  mulf (matmul dot_S512x640_S640x128_S512x128_1_0_0_1_n_n none (concatenate S512x640 1 [⟨S512x128, w0⟩, ⟨S512x128, w1⟩, ⟨S512x128, w2⟩, ⟨S512x128, w3⟩, ⟨S512x128, w4⟩] concatenates_S512x128_S512x128_S512x128_S512x128_S512x128_S512x640_d1) vh (constant S512x128 .f32 0x00000000#32))
    (broadcastTo S512x128 osc broadcasts_S1x128_S512x128)
/-- Weighted sum over 6 pieces of weights, scaled per column. -/
def fin6 (osc : FVec F S1x128 .f32) (w0 w1 w2 w3 w4 w5 : FVec F S512x128 .fp8e4m3) (vh : Vec F S768x128 .fp8e4m3) : FVec F S512x128 .f32 :=
  mulf (matmul dot_S512x768_S768x128_S512x128_1_0_0_1_n_n none (concatenate S512x768 1 [⟨S512x128, w0⟩, ⟨S512x128, w1⟩, ⟨S512x128, w2⟩, ⟨S512x128, w3⟩, ⟨S512x128, w4⟩, ⟨S512x128, w5⟩] concatenates_S512x128_S512x128_S512x128_S512x128_S512x128_S512x128_S512x768_d1) vh (constant S512x128 .f32 0x00000000#32))
    (broadcastTo S512x128 osc broadcasts_S1x128_S512x128)
/-- Weighted sum over 7 pieces of weights, scaled per column. -/
def fin7 (osc : FVec F S1x128 .f32) (w0 w1 w2 w3 w4 w5 w6 : FVec F S512x128 .fp8e4m3) (vh : Vec F S896x128 .fp8e4m3) : FVec F S512x128 .f32 :=
  mulf (matmul dot_S512x896_S896x128_S512x128_1_0_0_1_n_n none (concatenate S512x896 1 [⟨S512x128, w0⟩, ⟨S512x128, w1⟩, ⟨S512x128, w2⟩, ⟨S512x128, w3⟩, ⟨S512x128, w4⟩, ⟨S512x128, w5⟩, ⟨S512x128, w6⟩] concatenates_S512x128_S512x128_S512x128_S512x128_S512x128_S512x128_S512x128_S512x896_d1) vh (constant S512x128 .f32 0x00000000#32))
    (broadcastTo S512x128 osc broadcasts_S1x128_S512x128)
/-- Weighted sum over 8 pieces of weights, scaled per column. -/
def fin8 (osc : FVec F S1x128 .f32) (w0 w1 w2 w3 w4 w5 w6 w7 : FVec F S512x128 .fp8e4m3) (vh : Vec F S1024x128 .fp8e4m3) : FVec F S512x128 .f32 :=
  mulf (matmul dot_S512x1024_S1024x128_S512x128_1_0_0_1_n_n none (concatenate S512x1024 1 [⟨S512x128, w0⟩, ⟨S512x128, w1⟩, ⟨S512x128, w2⟩, ⟨S512x128, w3⟩, ⟨S512x128, w4⟩, ⟨S512x128, w5⟩, ⟨S512x128, w6⟩, ⟨S512x128, w7⟩] concatenates_S512x128_S512x128_S512x128_S512x128_S512x128_S512x128_S512x128_S512x128_S512x1024_d1) vh (constant S512x128 .f32 0x00000000#32))
    (broadcastTo S512x128 osc broadcasts_S1x128_S512x128)

end generic

/-- One weight at an index: `s` the score, `q` and `k` the two token scales, `on` the mask, `invp` the reciprocal
    of the weights' scale. -/
def code (invp : EReal) (on : Prop) [Decidable on] (s q k : EReal) : EReal :=
  min (Ideal.ofBits .f32 0x43E00000#32) (max 0
    ((if on then Ideal.logistic (s * (q * (k * Ideal.ofBits .f32 0x3DB504F3#32)) + Ideal.ofBits .f32 0xC0DDCE9E#32) else 0) * invp))

theorem chunkU_at (invp : EReal) (qt : FVec Ideal S8x128 .f32) (s : FVec Ideal S512x128 .f32) (ks : EReal) (r : Fin 512) (t : Fin 128) :
    k0_pay48 (F := Ideal) invp qt s ks (ix2 r t) = code invp True (s (ix2 r t)) (qt (ix2 ⟨r.val % 8, by omega⟩ t)) ks := by
  pointwise [k0_pay48, code]

theorem chunkM_at (invp : EReal) (mask : IVec S512x128 1) (qt : FVec Ideal S8x128 .f32) (s : FVec Ideal S512x128 .f32) (ks : EReal)
    (r : Fin 512) (t : Fin 128) (on : Prop) [Decidable on] (hon : mask (ix2 r t) = if on then 1#1 else 0#1) :
    chunkM (F := Ideal) invp mask qt s ks (ix2 r t) = code invp on (s (ix2 r t)) (qt (ix2 ⟨r.val % 8, by omega⟩ t)) ks := by
  pointwise [chunkM, code]
  rw [hon]
  by_cases h : on
  · rw [if_pos h, if_pos h]; rfl
  · rw [if_neg h, if_neg h, zero_mul]; rfl

/-- The bound of the clip, 448, is not negative. -/
theorem ofBits_448_nonneg : 0 ≤ Ideal.ofBits .f32 0x43E00000#32 := by
  rw [show Ideal.ofBits .f32 0x43E00000#32 = ((448 : ℝ) : EReal) by simp [Ideal.ofBits, Ideal.ieee, -EReal.coe_mul]; norm_num]
  exact EReal.coe_nonneg.mpr (by norm_num)

/-- A weight whose column is masked is zero. -/
theorem code_off (invp : EReal) (on : Prop) [Decidable on] (s q k : EReal) (h : ¬ on) : code invp on s q k = 0 := by
  rw [code, if_neg h, zero_mul, max_self, min_eq_right ofBits_448_nonneg]

theorem fdiv_word : ∀ r : Fin 512,
      (Scalar.select
        (IntOp.andi
          (IntOp.cmpi CmpIPredicate.ne
            (IntOp.subi (BitVec.setWidth 32 (IntOp.cmpi CmpIPredicate.sgt (BitVec.ofNat 32 ↑r) 0#32))
              (BitVec.setWidth 32 (IntOp.cmpi CmpIPredicate.slt (BitVec.ofNat 32 ↑r) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 ↑r) 4#32) 0#32))
        (IntOp.subi (IntOp.divsi ArithUnit.vector (BitVec.ofNat 32 ↑r) 4#32) 1#32)
        (IntOp.divsi ArithUnit.vector (BitVec.ofNat 32 ↑r) 4#32)) = BitVec.ofNat 32 (r.val / 4) := by decide +kernel

/-- the causal mask of a run's last piece -/
theorem mask_at (r : Fin 512) (t : Fin 128) : k0_pay9 (ix2 r t) = if t.val ≤ r.val / 4 then 1#1 else 0#1 := by
  pointwise [k0_pay9]
  rw [fdiv_word, WordCmp.cmpi_sle_ofNat (by omega) (by omega)]
  by_cases h : t.val ≤ r.val / 4 <;> simp [h]

/-- Head of a sublane. -/
theorem head_at (s : Fin 8) (l : Fin 128) :
    k0_pay8 (iota .tc S8x128 32 [0] iota_S8x128_d0_w32) 4#32 (Scalar.cmpi .eq 4#32 0#32) 1#32 (ix2 s l) = BitVec.ofNat 32 (s.val % 4) := by
  pointwise [k0_pay8]
  revert s
  decide +kernel

/-- Query scale of a sublane -/
theorem qt_at (a b c d : EReal) (hs : IVec S8x128 32) (s : Fin 8) (l : Fin 128) (hhs : hs (ix2 s l) = BitVec.ofNat 32 (s.val % 4)) :
    k0_pay12 (F := Ideal) hs (broadcast S8x128 (Scalar.ofBits .f32 0x00000000#32)) a b c d (ix2 s l)
      = (![a, b, c, d] : Fin 4 → EReal) ⟨s.val % 4, Nat.mod_lt _ (by decide)⟩ := by
  pointwise [k0_pay12]
  rw [hhs]
  fin_cases s <;> rfl

/-- A sum whose terms vanish from `N` on is the sum of its first `N` terms. -/
theorem sum_head (N : ℕ) (hN : N ≤ 1024) (f : Fin 1024 → EReal) (hz : ∀ k : Fin 1024, N ≤ k.val → f k = 0) :
    ∑ k : Fin N, f ⟨k.val, by omega⟩ = ∑ k, f k := by
  obtain ⟨M, hM⟩ := Nat.exists_eq_add_of_le hN
  rw [Fin.sum_univ_two_halves N M hM.symm f, Finset.sum_eq_zero (s := Finset.univ) (f := fun k : Fin M => f ⟨N + k.val, _⟩), add_zero]
  exact fun k _ => hz _ (Nat.le_add_right _ _)

/-- The scaled weighted sum of 1 piece at an index, over all 1024 tokens: the later ones weigh nothing. -/
theorem fin1_at (osc : FVec Ideal S1x128 .f32) (w0 : FVec Ideal S512x128 .fp8e4m3) (vh : FVec Ideal S128x128 .fp8e4m3)
    (r : Fin 512) (d : Fin 128) (P V : Fin 1024 → EReal)
    (h0 : ∀ t : Fin 128, w0 (ix2 r t) = P ⟨0 + t.val, by omega⟩)
    (hv : ∀ k : Fin 128, vh (ix2 k d) = V ⟨k.val, by omega⟩) (hz : ∀ k : Fin 1024, 128 ≤ k.val → P k = 0) :
    fin1 (F := Ideal) osc w0 vh (ix2 r d) = (∑ k, P k * V k) * osc (ix2 0 d) := by
  pointwise [fin1]
  rw [← sum_head 128 (by decide) (fun k => P k * V k) (fun k hk => by rw [hz k hk, zero_mul])]
  refine congrArg (· * _) (Finset.sum_congr rfl fun k _ => ?_)
  rw [hv]
  refine congrArg (· * _) ?_
  have hk := k.isLt
  rw [h0]; exact congrArg P (Fin.ext (by simp))

/-- The scaled weighted sum of 2 pieces at an index, over all 1024 tokens: the later ones weigh nothing. -/
theorem fin2_at (osc : FVec Ideal S1x128 .f32) (w0 w1 : FVec Ideal S512x128 .fp8e4m3) (vh : FVec Ideal S256x128 .fp8e4m3)
    (r : Fin 512) (d : Fin 128) (P V : Fin 1024 → EReal)
    (h0 : ∀ t : Fin 128, w0 (ix2 r t) = P ⟨0 + t.val, by omega⟩)
    (h1 : ∀ t : Fin 128, w1 (ix2 r t) = P ⟨128 + t.val, by omega⟩)
    (hv : ∀ k : Fin 256, vh (ix2 k d) = V ⟨k.val, by omega⟩) (hz : ∀ k : Fin 1024, 256 ≤ k.val → P k = 0) :
    fin2 (F := Ideal) osc w0 w1 vh (ix2 r d) = (∑ k, P k * V k) * osc (ix2 0 d) := by
  pointwise [fin2]
  rw [← sum_head 256 (by decide) (fun k => P k * V k) (fun k hk => by rw [hz k hk, zero_mul])]
  rw [Fin.sum_univ_two_halves 128 128 rfl]
  refine congrArg (· * _) (congrArg₂ (· + ·) (Finset.sum_congr rfl fun k _ => ?_) (Finset.sum_congr rfl fun k _ => ?_))
  · rw [hv, h0]; simp
  · rw [hv, h1]

/-- The scaled weighted sum of 3 pieces at an index, over all 1024 tokens: the later ones weigh nothing. -/
theorem fin3_at (osc : FVec Ideal S1x128 .f32) (w0 w1 w2 : FVec Ideal S512x128 .fp8e4m3) (vh : FVec Ideal S384x128 .fp8e4m3)
    (r : Fin 512) (d : Fin 128) (P V : Fin 1024 → EReal)
    (h0 : ∀ t : Fin 128, w0 (ix2 r t) = P ⟨0 + t.val, by omega⟩)
    (h1 : ∀ t : Fin 128, w1 (ix2 r t) = P ⟨128 + t.val, by omega⟩)
    (h2 : ∀ t : Fin 128, w2 (ix2 r t) = P ⟨256 + t.val, by omega⟩)
    (hv : ∀ k : Fin 384, vh (ix2 k d) = V ⟨k.val, by omega⟩) (hz : ∀ k : Fin 1024, 384 ≤ k.val → P k = 0) :
    fin3 (F := Ideal) osc w0 w1 w2 vh (ix2 r d) = (∑ k, P k * V k) * osc (ix2 0 d) := by
  pointwise [fin3]
  rw [← sum_head 384 (by decide) (fun k => P k * V k) (fun k hk => by rw [hz k hk, zero_mul])]
  refine congrArg (· * _) (Finset.sum_congr rfl fun k _ => ?_)
  rw [hv]
  refine congrArg (· * _) ?_
  have hk := k.isLt
  split_ifs <;> first
    | (rw [h0]; exact congrArg P (Fin.ext (by simp only []; omega)))
    | (rw [h1]; exact congrArg P (Fin.ext (by simp only []; omega)))
    | (rw [h2]; exact congrArg P (Fin.ext (by simp only []; omega)))

/-- The scaled weighted sum of 4 pieces at an index, over all 1024 tokens: the later ones weigh nothing. -/
theorem fin4_at (osc : FVec Ideal S1x128 .f32) (w0 w1 w2 w3 : FVec Ideal S512x128 .fp8e4m3) (vh : FVec Ideal S512x128 .fp8e4m3)
    (r : Fin 512) (d : Fin 128) (P V : Fin 1024 → EReal)
    (h0 : ∀ t : Fin 128, w0 (ix2 r t) = P ⟨0 + t.val, by omega⟩)
    (h1 : ∀ t : Fin 128, w1 (ix2 r t) = P ⟨128 + t.val, by omega⟩)
    (h2 : ∀ t : Fin 128, w2 (ix2 r t) = P ⟨256 + t.val, by omega⟩)
    (h3 : ∀ t : Fin 128, w3 (ix2 r t) = P ⟨384 + t.val, by omega⟩)
    (hv : ∀ k : Fin 512, vh (ix2 k d) = V ⟨k.val, by omega⟩) (hz : ∀ k : Fin 1024, 512 ≤ k.val → P k = 0) :
    fin4 (F := Ideal) osc w0 w1 w2 w3 vh (ix2 r d) = (∑ k, P k * V k) * osc (ix2 0 d) := by
  pointwise [fin4]
  rw [← sum_head 512 (by decide) (fun k => P k * V k) (fun k hk => by rw [hz k hk, zero_mul])]
  refine congrArg (· * _) (Finset.sum_congr rfl fun k _ => ?_)
  rw [hv]
  refine congrArg (· * _) ?_
  have hk := k.isLt
  split_ifs <;> first
    | (rw [h0]; exact congrArg P (Fin.ext (by simp only []; omega)))
    | (rw [h1]; exact congrArg P (Fin.ext (by simp only []; omega)))
    | (rw [h2]; exact congrArg P (Fin.ext (by simp only []; omega)))
    | (rw [h3]; exact congrArg P (Fin.ext (by simp only []; omega)))

/-- The scaled weighted sum of 5 pieces at an index, over all 1024 tokens: the later ones weigh nothing. -/
theorem fin5_at (osc : FVec Ideal S1x128 .f32) (w0 w1 w2 w3 w4 : FVec Ideal S512x128 .fp8e4m3) (vh : FVec Ideal S640x128 .fp8e4m3)
    (r : Fin 512) (d : Fin 128) (P V : Fin 1024 → EReal)
    (h0 : ∀ t : Fin 128, w0 (ix2 r t) = P ⟨0 + t.val, by omega⟩)
    (h1 : ∀ t : Fin 128, w1 (ix2 r t) = P ⟨128 + t.val, by omega⟩)
    (h2 : ∀ t : Fin 128, w2 (ix2 r t) = P ⟨256 + t.val, by omega⟩)
    (h3 : ∀ t : Fin 128, w3 (ix2 r t) = P ⟨384 + t.val, by omega⟩)
    (h4 : ∀ t : Fin 128, w4 (ix2 r t) = P ⟨512 + t.val, by omega⟩)
    (hv : ∀ k : Fin 640, vh (ix2 k d) = V ⟨k.val, by omega⟩) (hz : ∀ k : Fin 1024, 640 ≤ k.val → P k = 0) :
    fin5 (F := Ideal) osc w0 w1 w2 w3 w4 vh (ix2 r d) = (∑ k, P k * V k) * osc (ix2 0 d) := by
  pointwise [fin5]
  rw [← sum_head 640 (by decide) (fun k => P k * V k) (fun k hk => by rw [hz k hk, zero_mul])]
  refine congrArg (· * _) (Finset.sum_congr rfl fun k _ => ?_)
  rw [hv]
  refine congrArg (· * _) ?_
  have hk := k.isLt
  split_ifs <;> first
    | (rw [h0]; exact congrArg P (Fin.ext (by simp only []; omega)))
    | (rw [h1]; exact congrArg P (Fin.ext (by simp only []; omega)))
    | (rw [h2]; exact congrArg P (Fin.ext (by simp only []; omega)))
    | (rw [h3]; exact congrArg P (Fin.ext (by simp only []; omega)))
    | (rw [h4]; exact congrArg P (Fin.ext (by simp only []; omega)))

/-- The scaled weighted sum of 6 pieces at an index, over all 1024 tokens: the later ones weigh nothing. -/
theorem fin6_at (osc : FVec Ideal S1x128 .f32) (w0 w1 w2 w3 w4 w5 : FVec Ideal S512x128 .fp8e4m3) (vh : FVec Ideal S768x128 .fp8e4m3)
    (r : Fin 512) (d : Fin 128) (P V : Fin 1024 → EReal)
    (h0 : ∀ t : Fin 128, w0 (ix2 r t) = P ⟨0 + t.val, by omega⟩)
    (h1 : ∀ t : Fin 128, w1 (ix2 r t) = P ⟨128 + t.val, by omega⟩)
    (h2 : ∀ t : Fin 128, w2 (ix2 r t) = P ⟨256 + t.val, by omega⟩)
    (h3 : ∀ t : Fin 128, w3 (ix2 r t) = P ⟨384 + t.val, by omega⟩)
    (h4 : ∀ t : Fin 128, w4 (ix2 r t) = P ⟨512 + t.val, by omega⟩)
    (h5 : ∀ t : Fin 128, w5 (ix2 r t) = P ⟨640 + t.val, by omega⟩)
    (hv : ∀ k : Fin 768, vh (ix2 k d) = V ⟨k.val, by omega⟩) (hz : ∀ k : Fin 1024, 768 ≤ k.val → P k = 0) :
    fin6 (F := Ideal) osc w0 w1 w2 w3 w4 w5 vh (ix2 r d) = (∑ k, P k * V k) * osc (ix2 0 d) := by
  pointwise [fin6]
  rw [← sum_head 768 (by decide) (fun k => P k * V k) (fun k hk => by rw [hz k hk, zero_mul])]
  refine congrArg (· * _) (Finset.sum_congr rfl fun k _ => ?_)
  rw [hv]
  refine congrArg (· * _) ?_
  have hk := k.isLt
  split_ifs <;> first
    | (rw [h0]; exact congrArg P (Fin.ext (by simp only []; omega)))
    | (rw [h1]; exact congrArg P (Fin.ext (by simp only []; omega)))
    | (rw [h2]; exact congrArg P (Fin.ext (by simp only []; omega)))
    | (rw [h3]; exact congrArg P (Fin.ext (by simp only []; omega)))
    | (rw [h4]; exact congrArg P (Fin.ext (by simp only []; omega)))
    | (rw [h5]; exact congrArg P (Fin.ext (by simp only []; omega)))

/-- The scaled weighted sum of 7 pieces at an index, over all 1024 tokens: the later ones weigh nothing. -/
theorem fin7_at (osc : FVec Ideal S1x128 .f32) (w0 w1 w2 w3 w4 w5 w6 : FVec Ideal S512x128 .fp8e4m3) (vh : FVec Ideal S896x128 .fp8e4m3)
    (r : Fin 512) (d : Fin 128) (P V : Fin 1024 → EReal)
    (h0 : ∀ t : Fin 128, w0 (ix2 r t) = P ⟨0 + t.val, by omega⟩)
    (h1 : ∀ t : Fin 128, w1 (ix2 r t) = P ⟨128 + t.val, by omega⟩)
    (h2 : ∀ t : Fin 128, w2 (ix2 r t) = P ⟨256 + t.val, by omega⟩)
    (h3 : ∀ t : Fin 128, w3 (ix2 r t) = P ⟨384 + t.val, by omega⟩)
    (h4 : ∀ t : Fin 128, w4 (ix2 r t) = P ⟨512 + t.val, by omega⟩)
    (h5 : ∀ t : Fin 128, w5 (ix2 r t) = P ⟨640 + t.val, by omega⟩)
    (h6 : ∀ t : Fin 128, w6 (ix2 r t) = P ⟨768 + t.val, by omega⟩)
    (hv : ∀ k : Fin 896, vh (ix2 k d) = V ⟨k.val, by omega⟩) (hz : ∀ k : Fin 1024, 896 ≤ k.val → P k = 0) :
    fin7 (F := Ideal) osc w0 w1 w2 w3 w4 w5 w6 vh (ix2 r d) = (∑ k, P k * V k) * osc (ix2 0 d) := by
  pointwise [fin7]
  rw [← sum_head 896 (by decide) (fun k => P k * V k) (fun k hk => by rw [hz k hk, zero_mul])]
  refine congrArg (· * _) (Finset.sum_congr rfl fun k _ => ?_)
  rw [hv]
  refine congrArg (· * _) ?_
  have hk := k.isLt
  split_ifs <;> first
    | (rw [h0]; exact congrArg P (Fin.ext (by simp only []; omega)))
    | (rw [h1]; exact congrArg P (Fin.ext (by simp only []; omega)))
    | (rw [h2]; exact congrArg P (Fin.ext (by simp only []; omega)))
    | (rw [h3]; exact congrArg P (Fin.ext (by simp only []; omega)))
    | (rw [h4]; exact congrArg P (Fin.ext (by simp only []; omega)))
    | (rw [h5]; exact congrArg P (Fin.ext (by simp only []; omega)))
    | (rw [h6]; exact congrArg P (Fin.ext (by simp only []; omega)))

/-- The scaled weighted sum of 8 pieces at an index, over all 1024 tokens: the later ones weigh nothing. -/
theorem fin8_at (osc : FVec Ideal S1x128 .f32) (w0 w1 w2 w3 w4 w5 w6 w7 : FVec Ideal S512x128 .fp8e4m3) (vh : FVec Ideal S1024x128 .fp8e4m3)
    (r : Fin 512) (d : Fin 128) (P V : Fin 1024 → EReal)
    (h0 : ∀ t : Fin 128, w0 (ix2 r t) = P ⟨0 + t.val, by omega⟩)
    (h1 : ∀ t : Fin 128, w1 (ix2 r t) = P ⟨128 + t.val, by omega⟩)
    (h2 : ∀ t : Fin 128, w2 (ix2 r t) = P ⟨256 + t.val, by omega⟩)
    (h3 : ∀ t : Fin 128, w3 (ix2 r t) = P ⟨384 + t.val, by omega⟩)
    (h4 : ∀ t : Fin 128, w4 (ix2 r t) = P ⟨512 + t.val, by omega⟩)
    (h5 : ∀ t : Fin 128, w5 (ix2 r t) = P ⟨640 + t.val, by omega⟩)
    (h6 : ∀ t : Fin 128, w6 (ix2 r t) = P ⟨768 + t.val, by omega⟩)
    (h7 : ∀ t : Fin 128, w7 (ix2 r t) = P ⟨896 + t.val, by omega⟩)
    (hv : ∀ k : Fin 1024, vh (ix2 k d) = V ⟨k.val, by omega⟩) (hz : ∀ k : Fin 1024, 1024 ≤ k.val → P k = 0) :
    fin8 (F := Ideal) osc w0 w1 w2 w3 w4 w5 w6 w7 vh (ix2 r d) = (∑ k, P k * V k) * osc (ix2 0 d) := by
  pointwise [fin8]
  rw [← sum_head 1024 (by decide) (fun k => P k * V k) (fun k hk => by rw [hz k hk, zero_mul])]
  refine congrArg (· * _) (Finset.sum_congr rfl fun k _ => ?_)
  rw [hv]
  refine congrArg (· * _) ?_
  have hk := k.isLt
  split_ifs <;> first
    | (rw [h0]; exact congrArg P (Fin.ext (by simp only []; omega)))
    | (rw [h1]; exact congrArg P (Fin.ext (by simp only []; omega)))
    | (rw [h2]; exact congrArg P (Fin.ext (by simp only []; omega)))
    | (rw [h3]; exact congrArg P (Fin.ext (by simp only []; omega)))
    | (rw [h4]; exact congrArg P (Fin.ext (by simp only []; omega)))
    | (rw [h5]; exact congrArg P (Fin.ext (by simp only []; omega)))
    | (rw [h6]; exact congrArg P (Fin.ext (by simp only []; omega)))
    | (rw [h7]; exact congrArg P (Fin.ext (by simp only []; omega)))

end Cert.KernelIdeal.Value
-- ==== Proof.RunSums.lean ====
/- The eight runs of one grid point, at an index: run `n` leaves, per row and column, the weighted sum of the values over
   all 1024 tokens, scaled by the column's scale. -/
module

public import proofs.«01_k».proof.Proof.Weights

@[expose] public section

set_option maxRecDepth 16384

noncomputable section

namespace Cert.KernelIdeal.Value

open Idealize.ShloMosaic Idealize.ShloMosaic.TcCoe Idealize.SL.Sem
open Cert.KernelIdeal Cert.KernelIdeal.Gen

/-- The weight of key token `k` for row `r` of run `i`: row `r` is token `128 * i + r / 4`, head `r % 4` of the group. -/
def wt (invp : EReal) (q : FVec Ideal S512x128 .fp8e4m3) (K : FVec Ideal S1024x128 .fp8e4m3) (qs : Fin 4 → EReal) (ks : Fin 8 → EReal)
    (i : ℕ) (r : Fin 512) (k : Fin 1024) : EReal :=
  code invp (k.val ≤ 128 * i + r.val / 4) (∑ c : Fin 128, q (ix2 r c) * K (ix2 k c)) (qs ⟨r.val % 4, Nat.mod_lt _ (by decide)⟩)
    (ks ⟨k.val / 128, by omega⟩)

/-- Tokens after the run weigh nothing. -/
theorem wt_off (invp : EReal) (q K) (qs ks) (i : ℕ) (r : Fin 512) (k : Fin 1024) (h : 128 * (i + 1) ≤ k.val) :
    wt invp q K qs ks i r k = 0 := code_off _ _ _ _ _ (by omega)

/-- `kk` is the 256 rows of `K` from token `128 * j`. -/
def Rows256 (K : FVec Ideal S1024x128 .fp8e4m3) (j : ℕ) (kk : FVec Ideal S256x128 .fp8e4m3) : Prop :=
  ∀ (t : Fin 256) (c : Fin 128) (h : 128 * j + t.val < 1024), kk (ix2 t c) = K (ix2 ⟨128 * j + t.val, h⟩ c)

/-- `kk` is the 128 rows of `K` from token `128 * j`. -/
def Rows128 (K : FVec Ideal S1024x128 .fp8e4m3) (j : ℕ) (kk : FVec Ideal S128x128 .fp8e4m3) : Prop :=
  ∀ (t : Fin 128) (c : Fin 128) (h : 128 * j + t.val < 1024), kk (ix2 t c) = K (ix2 ⟨128 * j + t.val, h⟩ c)

section pieces
variable (invp : EReal) (qt : FVec Ideal S8x128 .f32) (q : FVec Ideal S512x128 .fp8e4m3) (K : FVec Ideal S1024x128 .fp8e4m3)
  (qs : Fin 4 → EReal) (ks : Fin 8 → EReal) (hqt : ∀ (s : Fin 8) (l : Fin 128), qt (ix2 s l) = qs ⟨s.val % 4, Nat.mod_lt _ (by decide)⟩)
include hqt

theorem code_eq_wt (i : ℕ) (r : Fin 512) (t : Fin 128) (j : Fin 8) (on : Prop) [Decidable on] (s : EReal) (k : Fin 1024) (hk : k.val = 128 * j.val + t.val)
    (hs : s = ∑ c : Fin 128, q (ix2 r c) * K (ix2 k c)) (hon : on ↔ k.val ≤ 128 * i + r.val / 4) :
    code invp on s (qt (ix2 ⟨r.val % 8, by omega⟩ t)) (ks j) = wt invp q K qs ks i r k := by
  have hj : (⟨k.val / 128, by omega⟩ : Fin 8) = j := Fin.ext (by simp only []; omega)
  have hr : (⟨r.val % 8 % 4, Nat.mod_lt _ (by decide)⟩ : Fin 4) = ⟨r.val % 4, Nat.mod_lt _ (by decide)⟩ := Fin.ext (by simp only []; omega)
  unfold wt
  rw [hqt, hj, hs, hr]
  unfold code
  simp only [hon]

/-- An unmasked left half is the weights of its 128 tokens. -/
theorem lo_at (kk : FVec Ideal S256x128 .fp8e4m3) (i : ℕ) (j : Fin 8) (hj : j.val < i) (hi8 : i < 8)
    (hk : ∀ (t : Fin 256) (c : Fin 128) (h : 128 * j.val + t.val < 1024), kk (ix2 t c) = K (ix2 ⟨128 * j.val + t.val, h⟩ c)) (r : Fin 512) (t : Fin 128) :
    k0_pay48 (F := Ideal) invp qt (lo (k0_pay46 q kk)) (ks j) (ix2 r t) = wt invp q K qs ks i r ⟨128 * j.val + t.val, by omega⟩ := by
  rw [chunkU_at]
  refine code_eq_wt invp qt q K qs ks hqt i r t j _ _ _ rfl ?_ (iff_of_true trivial (by simp only []; omega))
  pointwise [lo, k0_pay46]
  exact Finset.sum_congr rfl fun c _ => congrArg (_ * ·) (hk _ _ _)

/-- An unmasked right half is the weights of its 128 tokens. -/
theorem hi_at (kk : FVec Ideal S256x128 .fp8e4m3) (i : ℕ) (j j' : Fin 8) (hj' : j.val = j'.val + 1) (hj : j.val < i) (hi8 : i < 8)
    (hk : ∀ (t : Fin 256) (c : Fin 128) (h : 128 * j'.val + t.val < 1024), kk (ix2 t c) = K (ix2 ⟨128 * j'.val + t.val, h⟩ c)) (r : Fin 512) (t : Fin 128) :
    k0_pay48 (F := Ideal) invp qt (hi (k0_pay46 q kk)) (ks j) (ix2 r t) = wt invp q K qs ks i r ⟨128 * j.val + t.val, by omega⟩ := by
  rw [chunkU_at]
  refine code_eq_wt invp qt q K qs ks hqt i r t j _ _ _ rfl ?_ (iff_of_true trivial (by simp only []; omega))
  pointwise [hi, k0_pay46]
  refine Finset.sum_congr rfl fun c _ => congrArg (_ * ·) ((hk _ _ (by simp only []; omega)).trans (congrArg K ?_))
  exact congrArg (fun z => ix2 z c) (Fin.ext (by simp only [hj']; omega))

/-- The masked right half of the last pair is the weights of its 128 tokens. -/
theorem hiM_at (kk : FVec Ideal S256x128 .fp8e4m3) (i : ℕ) (j j' : Fin 8) (hj' : j.val = j'.val + 1) (hj : j.val = i)
    (hk : ∀ (t : Fin 256) (c : Fin 128) (h : 128 * j'.val + t.val < 1024), kk (ix2 t c) = K (ix2 ⟨128 * j'.val + t.val, h⟩ c)) (r : Fin 512) (t : Fin 128) :
    chunkM (F := Ideal) invp k0_pay9 qt (hi (k0_pay46 q kk)) (ks j) (ix2 r t) = wt invp q K qs ks i r ⟨128 * j.val + t.val, by omega⟩ := by
  rw [chunkM_at _ _ _ _ _ _ _ _ (mask_at r t)]
  refine code_eq_wt invp qt q K qs ks hqt i r t j _ _ _ rfl ?_ (by simp only []; omega)
  pointwise [hi, k0_pay46]
  refine Finset.sum_congr rfl fun c _ => congrArg (_ * ·) ((hk _ _ (by simp only []; omega)).trans (congrArg K ?_))
  exact congrArg (fun z => ix2 z c) (Fin.ext (by simp only [hj']; omega))

/-- A masked last piece that stands alone is the weights of its 128 tokens. -/
theorem oneM_at (kk : FVec Ideal S128x128 .fp8e4m3) (i : ℕ) (j : Fin 8) (hj : j.val = i)
    (hk : ∀ (t : Fin 128) (c : Fin 128) (h : 128 * j.val + t.val < 1024), kk (ix2 t c) = K (ix2 ⟨128 * j.val + t.val, h⟩ c)) (r : Fin 512) (t : Fin 128) :
    chunkM (F := Ideal) invp k0_pay9 qt (k0_pay13 q kk) (ks j) (ix2 r t) = wt invp q K qs ks i r ⟨128 * j.val + t.val, by omega⟩ := by
  rw [chunkM_at _ _ _ _ _ _ _ _ (mask_at r t)]
  refine code_eq_wt invp qt q K qs ks hqt i r t j _ _ _ rfl ?_ (by simp only []; omega)
  pointwise [k0_pay13]
  exact Finset.sum_congr rfl fun c _ => congrArg (_ * ·) (hk _ _ _)

end pieces

/-- What run `i` leaves at row `r`, column `d`. -/
def runAt (invp : EReal) (q : FVec Ideal S512x128 .fp8e4m3) (K V : FVec Ideal S1024x128 .fp8e4m3) (qs : Fin 4 → EReal) (ks : Fin 8 → EReal)
    (osc : FVec Ideal S1x128 .f32) (i : ℕ) (r : Fin 512) (d : Fin 128) : EReal :=
  (∑ k, wt invp q K qs ks i r k * V (ix2 k d)) * osc (ix2 0 d)

section runs
variable (invp : EReal) (qt : FVec Ideal S8x128 .f32) (q : FVec Ideal S512x128 .fp8e4m3) (K V : FVec Ideal S1024x128 .fp8e4m3)
  (osc : FVec Ideal S1x128 .f32) (v48 : IVec S8x128 32) (x : FVec Ideal S8x128 .f32) (y : IVec S8x128 1) (a b : EReal)
  (qs : Fin 4 → EReal) (ks : Fin 8 → EReal) (k0 k2 k4 k6 : FVec Ideal S256x128 .fp8e4m3) (kl : FVec Ideal S128x128 .fp8e4m3)
  (h0 : Rows256 K 0 k0)
  (h2 : Rows256 K 2 k2)
  (h4 : Rows256 K 4 k4)
  (h6 : Rows256 K 6 k6)

/-- Run 0 at an index. -/
theorem run0_at (hqt : (∀ (s : Fin 8) (l : Fin 128), qt (ix2 s l) = qs ⟨s.val % 4, Nat.mod_lt _ (by decide)⟩))
    (hl : Rows128 K 0 kl)
    (v : FVec Ideal S128x128 .fp8e4m3) (hv : ∀ (k : Fin 128) (d : Fin 128), v (ix2 k d) = V (ix2 ⟨k.val, by omega⟩ d)) (r : Fin 512) (d : Fin 128) :
    k0_pay14 (F := Ideal) invp osc k0_pay9 qt (k0_pay13 q kl) (ks 0) v (ix2 r d)
      = runAt invp q K V qs ks osc 0 r d :=
  (congrFun ((show k0_pay14 (F := Ideal) invp osc k0_pay9 qt (k0_pay13 q kl) (ks 0) v
      = shapeCast S512x128 (fin1 osc (chunkM invp k0_pay9 qt (k0_pay13 q kl) (ks 0)) v) shapeCasts_S512x128_S512x128 from rfl).trans (shapeCast_id _ _)) (ix2 r d)).trans
  (fin1_at osc _ v r d (wt invp q K qs ks 0 r) (fun k => V (ix2 k d))
    (oneM_at invp qt q K qs ks hqt kl 0 0 rfl hl r)
    (fun k => hv k d) (fun k hk => wt_off _ _ _ _ _ _ _ _ (by simpa using hk)))

include h0 in
/-- Run 1 at an index. -/
theorem run1_at (hqt : (∀ (s : Fin 8) (l : Fin 128), k0_pay22 (F := Ideal) v48 x y a b (ix2 s l) = qs ⟨s.val % 4, Nat.mod_lt _ (by decide)⟩))
    (v : FVec Ideal S256x128 .fp8e4m3) (hv : ∀ (k : Fin 256) (d : Fin 128), v (ix2 k d) = V (ix2 ⟨k.val, by omega⟩ d)) (r : Fin 512) (d : Fin 128) :
    k0_pay26 (F := Ideal) invp osc k0_pay9 (k0_pay22 v48 x y a b) (k0_pay24 invp v48 q x y a b k0 (ks 0)) (k0_pay25 q k0) (ks 1) v (ix2 r d)
      = runAt invp q K V qs ks osc 1 r d :=
  (congrFun ((show k0_pay26 (F := Ideal) invp osc k0_pay9 (k0_pay22 v48 x y a b) (k0_pay24 invp v48 q x y a b k0 (ks 0)) (k0_pay25 q k0) (ks 1) v
      = shapeCast S512x128 (fin2 osc (k0_pay48 invp (k0_pay22 v48 x y a b) (lo (k0_pay46 q k0)) (ks 0)) (chunkM invp k0_pay9 (k0_pay22 v48 x y a b) (hi (k0_pay46 q k0)) (ks 1)) v) shapeCasts_S512x128_S512x128 from rfl).trans (shapeCast_id _ _)) (ix2 r d)).trans
  (fin2_at osc _ _ v r d (wt invp q K qs ks 1 r) (fun k => V (ix2 k d))
    (lo_at invp (k0_pay22 v48 x y a b) q K qs ks hqt k0 1 0 (by decide) (by decide) h0 r)
    (hiM_at invp (k0_pay22 v48 x y a b) q K qs ks hqt k0 1 1 0 rfl rfl h0 r)
    (fun k => hv k d) (fun k hk => wt_off _ _ _ _ _ _ _ _ (by simpa using hk)))

include h0 in
/-- Run 2 at an index. -/
theorem run2_at (hqt : (∀ (s : Fin 8) (l : Fin 128), k0_pay22 (F := Ideal) v48 x y a b (ix2 s l) = qs ⟨s.val % 4, Nat.mod_lt _ (by decide)⟩))
    (hl : Rows128 K 2 kl)
    (v : FVec Ideal S384x128 .fp8e4m3) (hv : ∀ (k : Fin 384) (d : Fin 128), v (ix2 k d) = V (ix2 ⟨k.val, by omega⟩ d)) (r : Fin 512) (d : Fin 128) :
    k0_pay39 (F := Ideal) osc (k0_pay38 invp k0_pay9 q (k0_pay34 v48 x y a b) (k0_pay36 invp v48 q x y a b k0 (ks 0)) (k0_pay37 q k0) (ks 1) kl (ks 2)) v (ix2 r d)
      = runAt invp q K V qs ks osc 2 r d :=
  (congrFun ((show k0_pay39 (F := Ideal) osc (k0_pay38 invp k0_pay9 q (k0_pay34 v48 x y a b) (k0_pay36 invp v48 q x y a b k0 (ks 0)) (k0_pay37 q k0) (ks 1) kl (ks 2)) v
      = shapeCast S512x128 (fin3 osc (k0_pay48 invp (k0_pay22 v48 x y a b) (lo (k0_pay46 q k0)) (ks 0)) (k0_pay48 invp (k0_pay22 v48 x y a b) (hi (k0_pay46 q k0)) (ks 1)) (chunkM invp k0_pay9 (k0_pay22 v48 x y a b) (k0_pay13 q kl) (ks 2)) v) shapeCasts_S512x128_S512x128 from rfl).trans (shapeCast_id _ _)) (ix2 r d)).trans
  (fin3_at osc _ _ _ v r d (wt invp q K qs ks 2 r) (fun k => V (ix2 k d))
    (lo_at invp (k0_pay22 v48 x y a b) q K qs ks hqt k0 2 0 (by decide) (by decide) h0 r)
    (hi_at invp (k0_pay22 v48 x y a b) q K qs ks hqt k0 2 1 0 rfl (by decide) (by decide) h0 r)
    (oneM_at invp (k0_pay22 v48 x y a b) q K qs ks hqt kl 2 2 rfl hl r)
    (fun k => hv k d) (fun k hk => wt_off _ _ _ _ _ _ _ _ (by simpa using hk)))

include h0 h2 in
/-- Run 3 at an index. -/
theorem run3_at (hqt : (∀ (s : Fin 8) (l : Fin 128), qt (ix2 s l) = qs ⟨s.val % 4, Nat.mod_lt _ (by decide)⟩))
    (v : FVec Ideal S512x128 .fp8e4m3) (hv : ∀ (k : Fin 512) (d : Fin 128), v (ix2 k d) = V (ix2 ⟨k.val, by omega⟩ d)) (r : Fin 512) (d : Fin 128) :
    k0_pay53 (F := Ideal) osc (k0_pay52 invp k0_pay9 qt (k0_pay48 invp qt (k0_pay47 q k0) (ks 0)) (k0_pay49 invp qt (k0_pay46 q k0) (ks 1)) (k0_pay50 q k2) (k0_pay51 q k2) (ks 2) (ks 3)) v (constant S512x128 .f32 0x00000000#32) (ix2 r d)
      = runAt invp q K V qs ks osc 3 r d :=
  (congrFun ((show k0_pay53 (F := Ideal) osc (k0_pay52 invp k0_pay9 qt (k0_pay48 invp qt (k0_pay47 q k0) (ks 0)) (k0_pay49 invp qt (k0_pay46 q k0) (ks 1)) (k0_pay50 q k2) (k0_pay51 q k2) (ks 2) (ks 3)) v (constant S512x128 .f32 0x00000000#32)
      = shapeCast S512x128 (fin4 osc (k0_pay48 invp qt (lo (k0_pay46 q k0)) (ks 0)) (k0_pay48 invp qt (hi (k0_pay46 q k0)) (ks 1)) (k0_pay48 invp qt (lo (k0_pay46 q k2)) (ks 2)) (chunkM invp k0_pay9 qt (hi (k0_pay46 q k2)) (ks 3)) v) shapeCasts_S512x128_S512x128 from rfl).trans (shapeCast_id _ _)) (ix2 r d)).trans
  (fin4_at osc _ _ _ _ v r d (wt invp q K qs ks 3 r) (fun k => V (ix2 k d))
    (lo_at invp qt q K qs ks hqt k0 3 0 (by decide) (by decide) h0 r)
    (hi_at invp qt q K qs ks hqt k0 3 1 0 rfl (by decide) (by decide) h0 r)
    (lo_at invp qt q K qs ks hqt k2 3 2 (by decide) (by decide) h2 r)
    (hiM_at invp qt q K qs ks hqt k2 3 3 2 rfl rfl h2 r)
    (fun k => hv k d) (fun k hk => wt_off _ _ _ _ _ _ _ _ (by simpa using hk)))

include h0 h2 in
/-- Run 4 at an index. -/
theorem run4_at (hqt : (∀ (s : Fin 8) (l : Fin 128), qt (ix2 s l) = qs ⟨s.val % 4, Nat.mod_lt _ (by decide)⟩))
    (hl : Rows128 K 4 kl)
    (v : FVec Ideal S640x128 .fp8e4m3) (hv : ∀ (k : Fin 640) (d : Fin 128), v (ix2 k d) = V (ix2 ⟨k.val, by omega⟩ d)) (r : Fin 512) (d : Fin 128) :
    k0_pay69 (F := Ideal) invp osc k0_pay9 qt (k0_pay62 invp qt (k0_pay61 q k0) (ks 0)) (k0_pay63 invp qt (k0_pay60 q k0) (ks 1)) (k0_pay66 invp qt (k0_pay65 q k2) (ks 2)) (k0_pay67 invp qt (k0_pay64 q k2) (ks 3)) (k0_pay68 q kl) (ks 4) v (ix2 r d)
      = runAt invp q K V qs ks osc 4 r d :=
  (congrFun ((show k0_pay69 (F := Ideal) invp osc k0_pay9 qt (k0_pay62 invp qt (k0_pay61 q k0) (ks 0)) (k0_pay63 invp qt (k0_pay60 q k0) (ks 1)) (k0_pay66 invp qt (k0_pay65 q k2) (ks 2)) (k0_pay67 invp qt (k0_pay64 q k2) (ks 3)) (k0_pay68 q kl) (ks 4) v
      = shapeCast S512x128 (fin5 osc (k0_pay48 invp qt (lo (k0_pay46 q k0)) (ks 0)) (k0_pay48 invp qt (hi (k0_pay46 q k0)) (ks 1)) (k0_pay48 invp qt (lo (k0_pay46 q k2)) (ks 2)) (k0_pay48 invp qt (hi (k0_pay46 q k2)) (ks 3)) (chunkM invp k0_pay9 qt (k0_pay13 q kl) (ks 4)) v) shapeCasts_S512x128_S512x128 from rfl).trans (shapeCast_id _ _)) (ix2 r d)).trans
  (fin5_at osc _ _ _ _ _ v r d (wt invp q K qs ks 4 r) (fun k => V (ix2 k d))
    (lo_at invp qt q K qs ks hqt k0 4 0 (by decide) (by decide) h0 r)
    (hi_at invp qt q K qs ks hqt k0 4 1 0 rfl (by decide) (by decide) h0 r)
    (lo_at invp qt q K qs ks hqt k2 4 2 (by decide) (by decide) h2 r)
    (hi_at invp qt q K qs ks hqt k2 4 3 2 rfl (by decide) (by decide) h2 r)
    (oneM_at invp qt q K qs ks hqt kl 4 4 rfl hl r)
    (fun k => hv k d) (fun k hk => wt_off _ _ _ _ _ _ _ _ (by simpa using hk)))

include h0 h2 h4 in
/-- Run 5 at an index. -/
theorem run5_at (hqt : (∀ (s : Fin 8) (l : Fin 128), k0_pay22 (F := Ideal) v48 x y a b (ix2 s l) = qs ⟨s.val % 4, Nat.mod_lt _ (by decide)⟩))
    (v : FVec Ideal S768x128 .fp8e4m3) (hv : ∀ (k : Fin 768) (d : Fin 128), v (ix2 k d) = V (ix2 ⟨k.val, by omega⟩ d)) (r : Fin 512) (d : Fin 128) :
    k0_pay90 (F := Ideal) invp osc k0_pay9 (k0_pay77 v48 x y a b) (k0_pay79 invp v48 q x y a b k0 (ks 0)) (k0_pay81 invp (k0_pay77 v48 x y a b) (k0_pay80 q k0) (ks 1)) (k0_pay83 invp q (k0_pay77 v48 x y a b) k2 (ks 2)) (k0_pay85 invp (k0_pay77 v48 x y a b) (k0_pay84 q k2) (ks 3) (Scalar.ofBits .f32 0x3DB504F3#32)) (k0_pay87 invp q (k0_pay77 v48 x y a b) k4 (ks 4)) (k0_pay88 q k4) (k0_pay89 (ks 5)) v (ix2 r d)
      = runAt invp q K V qs ks osc 5 r d :=
  (congrFun ((show k0_pay90 (F := Ideal) invp osc k0_pay9 (k0_pay77 v48 x y a b) (k0_pay79 invp v48 q x y a b k0 (ks 0)) (k0_pay81 invp (k0_pay77 v48 x y a b) (k0_pay80 q k0) (ks 1)) (k0_pay83 invp q (k0_pay77 v48 x y a b) k2 (ks 2)) (k0_pay85 invp (k0_pay77 v48 x y a b) (k0_pay84 q k2) (ks 3) (Scalar.ofBits .f32 0x3DB504F3#32)) (k0_pay87 invp q (k0_pay77 v48 x y a b) k4 (ks 4)) (k0_pay88 q k4) (k0_pay89 (ks 5)) v
      = shapeCast S512x128 (fin6 osc (k0_pay48 invp (k0_pay22 v48 x y a b) (lo (k0_pay46 q k0)) (ks 0)) (k0_pay48 invp (k0_pay22 v48 x y a b) (hi (k0_pay46 q k0)) (ks 1)) (k0_pay48 invp (k0_pay22 v48 x y a b) (lo (k0_pay46 q k2)) (ks 2)) (k0_pay48 invp (k0_pay22 v48 x y a b) (hi (k0_pay46 q k2)) (ks 3)) (k0_pay48 invp (k0_pay22 v48 x y a b) (lo (k0_pay46 q k4)) (ks 4)) (chunkM invp k0_pay9 (k0_pay22 v48 x y a b) (hi (k0_pay46 q k4)) (ks 5)) v) shapeCasts_S512x128_S512x128 from rfl).trans (shapeCast_id _ _)) (ix2 r d)).trans
  (fin6_at osc _ _ _ _ _ _ v r d (wt invp q K qs ks 5 r) (fun k => V (ix2 k d))
    (lo_at invp (k0_pay22 v48 x y a b) q K qs ks hqt k0 5 0 (by decide) (by decide) h0 r)
    (hi_at invp (k0_pay22 v48 x y a b) q K qs ks hqt k0 5 1 0 rfl (by decide) (by decide) h0 r)
    (lo_at invp (k0_pay22 v48 x y a b) q K qs ks hqt k2 5 2 (by decide) (by decide) h2 r)
    (hi_at invp (k0_pay22 v48 x y a b) q K qs ks hqt k2 5 3 2 rfl (by decide) (by decide) h2 r)
    (lo_at invp (k0_pay22 v48 x y a b) q K qs ks hqt k4 5 4 (by decide) (by decide) h4 r)
    (hiM_at invp (k0_pay22 v48 x y a b) q K qs ks hqt k4 5 5 4 rfl rfl h4 r)
    (fun k => hv k d) (fun k hk => wt_off _ _ _ _ _ _ _ _ (by simpa using hk)))

include h0 h2 h4 in
/-- Run 6 at an index. -/
theorem run6_at (hqt : (∀ (s : Fin 8) (l : Fin 128), k0_pay22 (F := Ideal) v48 x y a b (ix2 s l) = qs ⟨s.val % 4, Nat.mod_lt _ (by decide)⟩))
    (hl : Rows128 K 6 kl)
    (v : FVec Ideal S896x128 .fp8e4m3) (hv : ∀ (k : Fin 896) (d : Fin 128), v (ix2 k d) = V (ix2 ⟨k.val, by omega⟩ d)) (r : Fin 512) (d : Fin 128) :
    k0_pay114 (F := Ideal) (k0_pay113 invp osc k0_pay9 q (k0_pay98 v48 x y a b) (k0_pay100 invp v48 q x y a b k0 (ks 0)) (k0_pay103 invp (k0_pay98 v48 x y a b) (k0_pay101 q k0) (k0_pay102 (ks 1))) (k0_pay105 invp q (k0_pay98 v48 x y a b) k2 (ks 2)) (k0_pay108 invp (k0_pay98 v48 x y a b) (k0_pay106 q k2) (k0_pay107 (ks 3))) (k0_pay110 invp q (k0_pay98 v48 x y a b) k4 (ks 4)) (k0_pay111 q k4) (k0_pay112 (k0_pay98 v48 x y a b) (ks 5)) kl (ks 6) v) (ix2 r d)
      = runAt invp q K V qs ks osc 6 r d :=
  (congrFun ((show k0_pay114 (F := Ideal) (k0_pay113 invp osc k0_pay9 q (k0_pay98 v48 x y a b) (k0_pay100 invp v48 q x y a b k0 (ks 0)) (k0_pay103 invp (k0_pay98 v48 x y a b) (k0_pay101 q k0) (k0_pay102 (ks 1))) (k0_pay105 invp q (k0_pay98 v48 x y a b) k2 (ks 2)) (k0_pay108 invp (k0_pay98 v48 x y a b) (k0_pay106 q k2) (k0_pay107 (ks 3))) (k0_pay110 invp q (k0_pay98 v48 x y a b) k4 (ks 4)) (k0_pay111 q k4) (k0_pay112 (k0_pay98 v48 x y a b) (ks 5)) kl (ks 6) v)
      = shapeCast S512x128 (fin7 osc (k0_pay48 invp (k0_pay22 v48 x y a b) (lo (k0_pay46 q k0)) (ks 0)) (k0_pay48 invp (k0_pay22 v48 x y a b) (hi (k0_pay46 q k0)) (ks 1)) (k0_pay48 invp (k0_pay22 v48 x y a b) (lo (k0_pay46 q k2)) (ks 2)) (k0_pay48 invp (k0_pay22 v48 x y a b) (hi (k0_pay46 q k2)) (ks 3)) (k0_pay48 invp (k0_pay22 v48 x y a b) (lo (k0_pay46 q k4)) (ks 4)) (k0_pay48 invp (k0_pay22 v48 x y a b) (hi (k0_pay46 q k4)) (ks 5)) (chunkM invp k0_pay9 (k0_pay22 v48 x y a b) (k0_pay13 q kl) (ks 6)) v) shapeCasts_S512x128_S512x128 from rfl).trans (shapeCast_id _ _)) (ix2 r d)).trans
  (fin7_at osc _ _ _ _ _ _ _ v r d (wt invp q K qs ks 6 r) (fun k => V (ix2 k d))
    (lo_at invp (k0_pay22 v48 x y a b) q K qs ks hqt k0 6 0 (by decide) (by decide) h0 r)
    (hi_at invp (k0_pay22 v48 x y a b) q K qs ks hqt k0 6 1 0 rfl (by decide) (by decide) h0 r)
    (lo_at invp (k0_pay22 v48 x y a b) q K qs ks hqt k2 6 2 (by decide) (by decide) h2 r)
    (hi_at invp (k0_pay22 v48 x y a b) q K qs ks hqt k2 6 3 2 rfl (by decide) (by decide) h2 r)
    (lo_at invp (k0_pay22 v48 x y a b) q K qs ks hqt k4 6 4 (by decide) (by decide) h4 r)
    (hi_at invp (k0_pay22 v48 x y a b) q K qs ks hqt k4 6 5 4 rfl (by decide) (by decide) h4 r)
    (oneM_at invp (k0_pay22 v48 x y a b) q K qs ks hqt kl 6 6 rfl hl r)
    (fun k => hv k d) (fun k hk => wt_off _ _ _ _ _ _ _ _ (by simpa using hk)))

include h0 h2 h4 h6 in
/-- Run 7 at an index. -/
theorem run7_at (hqt : (∀ (s : Fin 8) (l : Fin 128), qt (ix2 s l) = qs ⟨s.val % 4, Nat.mod_lt _ (by decide)⟩))
    (v : FVec Ideal S1024x128 .fp8e4m3) (hv : ∀ (k : Fin 1024) (d : Fin 128), v (ix2 k d) = V (ix2 ⟨k.val, by omega⟩ d)) (r : Fin 512) (d : Fin 128) :
    k0_pay140 (F := Ideal) (k0_pay139 invp osc k0_pay9 qt (k0_pay125 invp qt (k0_pay124 q k0) (ks 0)) (k0_pay126 invp qt (k0_pay123 q k0) (ks 1)) (k0_pay129 invp qt (k0_pay128 q k2) (ks 2) (Scalar.ofBits .f32 0x3DB504F3#32)) (k0_pay130 invp qt (k0_pay127 q k2) (ks 3)) (k0_pay134 invp qt (k0_pay132 q k4) (k0_pay133 (ks 4))) (k0_pay135 invp qt (k0_pay131 q k4) (ks 5)) (k0_pay136 q k6) (k0_pay137 q k6) (k0_pay138 (ks 6)) (ks 7) v) (ix2 r d)
      = runAt invp q K V qs ks osc 7 r d :=
  (congrFun ((show k0_pay140 (F := Ideal) (k0_pay139 invp osc k0_pay9 qt (k0_pay125 invp qt (k0_pay124 q k0) (ks 0)) (k0_pay126 invp qt (k0_pay123 q k0) (ks 1)) (k0_pay129 invp qt (k0_pay128 q k2) (ks 2) (Scalar.ofBits .f32 0x3DB504F3#32)) (k0_pay130 invp qt (k0_pay127 q k2) (ks 3)) (k0_pay134 invp qt (k0_pay132 q k4) (k0_pay133 (ks 4))) (k0_pay135 invp qt (k0_pay131 q k4) (ks 5)) (k0_pay136 q k6) (k0_pay137 q k6) (k0_pay138 (ks 6)) (ks 7) v)
      = shapeCast S512x128 (fin8 osc (k0_pay48 invp qt (lo (k0_pay46 q k0)) (ks 0)) (k0_pay48 invp qt (hi (k0_pay46 q k0)) (ks 1)) (k0_pay48 invp qt (lo (k0_pay46 q k2)) (ks 2)) (k0_pay48 invp qt (hi (k0_pay46 q k2)) (ks 3)) (k0_pay48 invp qt (lo (k0_pay46 q k4)) (ks 4)) (k0_pay48 invp qt (hi (k0_pay46 q k4)) (ks 5)) (k0_pay48 invp qt (lo (k0_pay46 q k6)) (ks 6)) (chunkM invp k0_pay9 qt (hi (k0_pay46 q k6)) (ks 7)) v) shapeCasts_S512x128_S512x128 from rfl).trans (shapeCast_id _ _)) (ix2 r d)).trans
  (fin8_at osc _ _ _ _ _ _ _ _ v r d (wt invp q K qs ks 7 r) (fun k => V (ix2 k d))
    (lo_at invp qt q K qs ks hqt k0 7 0 (by decide) (by decide) h0 r)
    (hi_at invp qt q K qs ks hqt k0 7 1 0 rfl (by decide) (by decide) h0 r)
    (lo_at invp qt q K qs ks hqt k2 7 2 (by decide) (by decide) h2 r)
    (hi_at invp qt q K qs ks hqt k2 7 3 2 rfl (by decide) (by decide) h2 r)
    (lo_at invp qt q K qs ks hqt k4 7 4 (by decide) (by decide) h4 r)
    (hi_at invp qt q K qs ks hqt k4 7 5 4 rfl (by decide) (by decide) h4 r)
    (lo_at invp qt q K qs ks hqt k6 7 6 (by decide) (by decide) h6 r)
    (hiM_at invp qt q K qs ks hqt k6 7 7 6 rfl rfl h6 r)
    (fun k => hv k d) (fun k hk => wt_off _ _ _ _ _ _ _ _ (by simpa using hk)))

end runs

end Cert.KernelIdeal.Value
-- ==== Proof.Loads.lean ====
/- What each load of a grid point reads, at an index: the scalar scales, the codes of `k` and `v` of the point's head group,
   the strided rows of the packed `q` codes, and the rows of a run that go to one head. -/
module

public import proofs.«01_k».proof.Proof.RunSums
public import Idealize.ShloMosaic.Lib.Pipeline.ValueKit
public import Idealize.ShloMosaic.Lib.Pipeline.ReadBack
public import Idealize.ShloMosaic.Lib.WholeRead

@[expose] public section

set_option maxRecDepth 16384

noncomputable section

namespace Cert.KernelIdeal.Value

open Idealize.ShloMosaic Idealize.ShloMosaic.TcCoe Idealize.SL.Sem
open Cert.KernelIdeal Cert.KernelIdeal.Gen

/-- One scalar of a rank-3 table is the table's entry at the load's offsets. -/
theorem ld3_at {sp : Space} {A B C : ℕ} (M : Memref sig .tc sp ⟨3, ![A, B, C]⟩ .f32) (hM : M.IsWhole) (x : Vec Ideal ⟨3, ![A, B, C]⟩ .f32)
    (off : Fin 3 → ℕ) (inb) (p) (a : Fin A) (b : Fin B) (c : Fin C) (ho : off = ![a.val, b.val, c.val]) :
    View.readAt (Elt Ideal) M.view (Rect.unit (s := ⟨3, ![A, B, C]⟩) off S1x1x1.size inb).toLoadRect (hM.unread x)
      (Shape.Idx.first (s := S1x1x1) p) = x (ix3 a b c) := by
  subst ho
  refine (hM.readAt_unread x _ _).trans (congrArg x ?_)
  funext k
  match k with
  | ⟨0, _⟩ => exact Fin.ext (by simp [LoadRect.idx, Rect.unit, Shape.Idx.first, ix3])
  | ⟨1, _⟩ => exact Fin.ext (by simp [LoadRect.idx, Rect.unit, Shape.Idx.first, ix3])
  | ⟨2, _⟩ => exact Fin.ext (by simp [LoadRect.idx, Rect.unit, Shape.Idx.first, ix3])

/-- The only entry of the scale of the weights. -/
theorem ld1_at (M : Memref sig .tc .smem S1 .f32) (hM : M.IsWhole) (x : Vec Ideal S1 .f32) (inb) (p) :
    View.readAt (Elt Ideal) M.view (Rect.unit ![0] S1.size inb).toLoadRect (hM.unread x) (Shape.Idx.first p) = x (ix1 0) := by
  refine (hM.readAt_unread x _ _).trans (congrArg x ?_)
  funext k
  match k with
  | ⟨0, _⟩ => exact Fin.ext (by simp [LoadRect.idx, Rect.unit, Shape.Idx.first, ix1])

/-- One row of the scales of `v`. -/
theorem ldRow_at (M : Memref sig .tc .vmem S4x128 .f32) (hM : M.IsWhole) (x : Vec Ideal S4x128 .f32) (off : Fin 2 → ℕ) (inb) (g : Fin 4)
    (ho : off = ![g.val, 0]) :
    View.readAt (Elt Ideal) M.view (Rect.unit (s := S4x128) off S1x128.size inb).toLoadRect (hM.unread x) = fun j => x (ix2 g (j 1)) := by
  subst ho
  funext j
  refine (hM.readAt_unread x _ _).trans (congrArg x ?_)
  funext k
  match k with
  | ⟨0, _⟩ => exact Fin.ext (by have := (j 0).isLt; simp [LoadRect.idx, Rect.unit, ix2])
  | ⟨1, _⟩ => exact Fin.ext (by simp [LoadRect.idx, Rect.unit, ix2])

/-- A load of a whole block reads the block. -/
theorem ldWhole {A B C : ℕ} {e : EltTy} (M : Memref sig .tc .vmem ⟨3, ![A, B, C]⟩ e) (hM : M.IsWhole) (x : Vec Ideal ⟨3, ![A, B, C]⟩ e) (inb) :
    View.readAt (Elt Ideal) M.view (Rect.unit (s := ⟨3, ![A, B, C]⟩) ![0, 0, 0] (Shape.size ⟨3, ![A, B, C]⟩) inb).toLoadRect (hM.unread x) = x := by
  funext j
  refine (hM.readAt_unread x _ _).trans (congrArg x ?_)
  funext k
  match k with
  | ⟨0, _⟩ => exact Fin.ext (by simp [LoadRect.idx, Rect.unit])
  | ⟨1, _⟩ => exact Fin.ext (by simp [LoadRect.idx, Rect.unit])
  | ⟨2, _⟩ => exact Fin.ext (by simp [LoadRect.idx, Rect.unit])

/-- Rows of a buffer stored whole, from row `o` on. -/
theorem ldRows_at (M : Memref sig .tc .vmem S1024x128 .fp8e4m3) (w K : FVec Ideal S1024x128 .fp8e4m3) (hw : w = K) {N : ℕ} (o : ℕ) (inb inb')
    (t : Fin N) (c : Fin 128) (k : Fin 1024) (hk : k.val = o + t.val) :
    M.view.readCov (Val := Elt Ideal) [⟨Rect.unit ![0, 0] S1024x128.size inb, w⟩] (Rect.unit (s := S1024x128) ![o, 0] (Shape.size ⟨2, ![N, 128]⟩) inb').toLoadRect (ix2 t c)
      = K (ix2 k c) := by
  subst hw
  rw [View.readCov_eq_canon', View.canon_cons_unit_lit _ _ _ (by decide)]
  refine congrArg w ?_
  funext a
  match a with
  | ⟨0, _⟩ => exact Fin.ext (by simp [LoadRect.idx, Rect.unit, ix2, hk])
  | ⟨1, _⟩ => exact Fin.ext (by simp [LoadRect.idx, Rect.unit, ix2])

/-- 256 rows of a buffer stored whole. -/
theorem rows256 (M : Memref sig .tc .vmem S1024x128 .fp8e4m3) (w K : FVec Ideal S1024x128 .fp8e4m3) (hw : w = K) (j o : ℕ) (ho : o = 128 * j) (inb inb') :
    Rows256 K j (M.view.readCov (Val := Elt Ideal) [⟨Rect.unit ![0, 0] S1024x128.size inb, w⟩] (Rect.unit (s := S1024x128) ![o, 0] S256x128.size inb').toLoadRect) :=
  fun t c h => ldRows_at M w K hw o inb inb' t c _ (by simp only [ho])

/-- 128 rows of a buffer stored whole. -/
theorem rows128 (M : Memref sig .tc .vmem S1024x128 .fp8e4m3) (w K : FVec Ideal S1024x128 .fp8e4m3) (hw : w = K) (j o : ℕ) (ho : o = 128 * j) (inb inb') :
    Rows128 K j (M.view.readCov (Val := Elt Ideal) [⟨Rect.unit ![0, 0] S1024x128.size inb, w⟩] (Rect.unit (s := S1024x128) ![o, 0] S128x128.size inb').toLoadRect) :=
  fun t c h => ldRows_at M w K hw o inb inb' t c _ (by simp only [ho])

/-- The `q` codes of run `n` and group `g`, out of the packed words: word row `512 * n + g + 4 * t` holds the four heads of token `t`. -/
def qRows (w : IVec S4096x128 32) (g : Fin 4) (n : Fin 8) : FVec Ideal S512x128 .fp8e4m3 :=
  k0_pay10 (F := Ideal) fun j : S128x128.Idx => w (ix2 ⟨512 * n.val + g.val + 4 * (j 0).val, by have : (j 0).val < 128 := (j 0).isLt; omega⟩ (j 1))

/-- The index a strided load of the packed words reads. -/
theorem qidx (off : Fin 2 → ℕ) (inb) (g : Fin 4) (n : Fin 8) (ho : off = ![512 * n.val + g.val, 0]) (j : S128x128.Idx) :
    (⟨off, S128x128.size, ![4, 1], inb⟩ : LoadRect S4096x128).idx j
      = ix2 ⟨512 * n.val + g.val + 4 * (j 0).val, by have : (j 0).val < 128 := (j 0).isLt; omega⟩ (j 1) := by
  subst ho
  funext k
  match k with
  | ⟨0, _⟩ => exact Fin.ext (by simp [LoadRect.idx, ix2])
  | ⟨1, _⟩ => exact Fin.ext (by simp [LoadRect.idx, ix2])

/-- The strided load of the words just stored. -/
theorem ldQ_stored (M : Memref sig .tc .vmem S4096x128 .i32) (w w' : IVec S4096x128 32) (hw : w = w') (off : Fin 2 → ℕ) (inb inb') (g : Fin 4) (n : Fin 8)
    (ho : off = ![512 * n.val + g.val, 0]) :
    k0_pay10 (F := Ideal) (View.readAt (Elt Ideal) M.view (⟨off, S128x128.size, ![4, 1], inb⟩ : LoadRect S4096x128)
      (M.view.writes (Elt Ideal) M.view.junk [⟨Rect.unit ![0, 0] S4096x128.size inb', w⟩])) = qRows w' g n := by
  subst hw
  refine congrArg _ ?_
  rw [View.readAt_writes_junk_eq_canon, View.canon_cons_unit_lit _ _ _ (by decide)]
  funext j
  exact congrArg w (qidx off inb g n ho j)

/-- The strided load of the words the point before left. -/
theorem ldQ_kept (M : Memref sig .tc .vmem S4096x128 .i32) (hM : M.IsWhole) (w : IVec S4096x128 32) (off : Fin 2 → ℕ) (inb) (g : Fin 4) (n : Fin 8)
    (ho : off = ![512 * n.val + g.val, 0]) :
    k0_pay10 (F := Ideal) (View.readAt (Elt Ideal) M.view (⟨off, S128x128.size, ![4, 1], inb⟩ : LoadRect S4096x128) (hM.unread w)) = qRows w g n := by
  refine congrArg _ ?_
  funext j
  exact (hM.readAt_unread (Val := Elt Ideal) (w : Vec Ideal S4096x128 .i32) _ _).trans (congrArg w (qidx off inb g n ho j))

/-- Column `4 * g + h` of the token scales of `q`. -/
def hcol (g : Fin 4) (h : Fin 4) : Fin 16 := ⟨4 * g.val + h.val, by omega⟩

/-- The offsets of the strided loads of the packed `q` codes. -/
theorem off_w : ∀ (i : grid0.Coords) (n : Fin 8), k0_off2 i (BitVec.ofNat 32 (512 * n.val)) = ![512 * n.val + (i 1).val, 0] := by decide +kernel
/-- The row of the scales of `v`. -/
theorem off_v : ∀ i : grid0.Coords, k0_off1 i = ![(i 1).val, 0] := by decide +kernel
/-- The offsets of the token scales of `q` in run 0. -/
theorem off_q0 : ∀ (i : grid0.Coords) (h : Fin 4), k0_off3 i (BitVec.ofNat 32 h.val) = ![(i 0).val, ((0 : Fin 8)).val, (hcol (i 1) h).val] := by decide +kernel
/-- The offsets of the token scale of `k`, piece 0. -/
theorem off_k0 : ∀ i : grid0.Coords, k0_off4 i = ![(i 0).val, (0 : Fin 8).val, (i 1).val] := by decide +kernel
/-- The offsets of the token scales of `q` in run 1. -/
theorem off_q1 : ∀ (i : grid0.Coords) (h : Fin 4), k0_off5 i (BitVec.ofNat 32 h.val) = ![(i 0).val, ((1 : Fin 8)).val, (hcol (i 1) h).val] := by decide +kernel
/-- The offsets of the token scale of `k`, piece 1. -/
theorem off_k1 : ∀ i : grid0.Coords, k0_off6 i = ![(i 0).val, (1 : Fin 8).val, (i 1).val] := by decide +kernel
/-- The offsets of the token scales of `q` in run 2. -/
theorem off_q2 : ∀ (i : grid0.Coords) (h : Fin 4), k0_off7 i (BitVec.ofNat 32 h.val) = ![(i 0).val, ((2 : Fin 8)).val, (hcol (i 1) h).val] := by decide +kernel
/-- The offsets of the token scale of `k`, piece 2. -/
theorem off_k2 : ∀ i : grid0.Coords, k0_off8 i = ![(i 0).val, (2 : Fin 8).val, (i 1).val] := by decide +kernel
/-- The offsets of the token scales of `q` in run 3. -/
theorem off_q3 : ∀ (i : grid0.Coords) (h : Fin 4), k0_off9 i (BitVec.ofNat 32 h.val) = ![(i 0).val, ((3 : Fin 8)).val, (hcol (i 1) h).val] := by decide +kernel
/-- The offsets of the token scale of `k`, piece 3. -/
theorem off_k3 : ∀ i : grid0.Coords, k0_off10 i = ![(i 0).val, (3 : Fin 8).val, (i 1).val] := by decide +kernel
/-- The offsets of the token scales of `q` in run 4. -/
theorem off_q4 : ∀ (i : grid0.Coords) (h : Fin 4), k0_off11 i (BitVec.ofNat 32 h.val) = ![(i 0).val, ((4 : Fin 8)).val, (hcol (i 1) h).val] := by decide +kernel
/-- The offsets of the token scale of `k`, piece 4. -/
theorem off_k4 : ∀ i : grid0.Coords, k0_off12 i = ![(i 0).val, (4 : Fin 8).val, (i 1).val] := by decide +kernel
/-- The offsets of the token scales of `q` in run 5. -/
theorem off_q5 : ∀ (i : grid0.Coords) (h : Fin 4), k0_off13 i (BitVec.ofNat 32 h.val) = ![(i 0).val, ((5 : Fin 8)).val, (hcol (i 1) h).val] := by decide +kernel
/-- The offsets of the token scale of `k`, piece 5. -/
theorem off_k5 : ∀ i : grid0.Coords, k0_off14 i = ![(i 0).val, (5 : Fin 8).val, (i 1).val] := by decide +kernel
/-- The offsets of the token scales of `q` in run 6. -/
theorem off_q6 : ∀ (i : grid0.Coords) (h : Fin 4), k0_off15 i (BitVec.ofNat 32 h.val) = ![(i 0).val, ((6 : Fin 8)).val, (hcol (i 1) h).val] := by decide +kernel
/-- The offsets of the token scale of `k`, piece 6. -/
theorem off_k6 : ∀ i : grid0.Coords, k0_off16 i = ![(i 0).val, (6 : Fin 8).val, (i 1).val] := by decide +kernel
/-- The offsets of the token scales of `q` in run 7. -/
theorem off_q7 : ∀ (i : grid0.Coords) (h : Fin 4), k0_off17 i (BitVec.ofNat 32 h.val) = ![(i 0).val, ((7 : Fin 8)).val, (hcol (i 1) h).val] := by decide +kernel
/-- The offsets of the token scale of `k`, piece 7. -/
theorem off_k7 : ∀ i : grid0.Coords, k0_off18 i = ![(i 0).val, (7 : Fin 8).val, (i 1).val] := by decide +kernel

/-- What run `n` of a point leaves, from the point's blocks: `w` the packed `q` codes. -/
def runOut (i : grid0.Coords) (x0 : Vec Ideal S2x8x16 .f32) (x1 : Vec Ideal S2x8x4 .f32) (x2 : Vec Ideal S1 .f32) (w : IVec S4096x128 32)
    (x4 x5 : Vec Ideal S1x4096x128 .i8) (x6 : Vec Ideal S4x128 .f32) (n : Fin 8) (r : Fin 512) (d : Fin 128) : EReal :=
  runAt (k0_pay6 (F := Ideal) (x2 (ix1 0))) (qRows w (i 1) n) (k0_pay4 (F := Ideal) i x4) (k0_pay5 (F := Ideal) i x5)
    (fun h => x0 (ix3 (i 0) n (hcol (i 1) h))) (fun j => x1 (ix3 (i 0) j (i 1)))
    (k0_pay7 (F := Ideal) (x2 (ix1 0)) fun j : S1x128.Idx => x6 (ix2 (i 1) (j 1))) n.val r d

/-- The scales of `q` in run `n`: the four loads are the point's four columns. -/
theorem qs_eq (x0 : Vec Ideal S2x8x16 .f32) (a : Fin 2) (n : Fin 8) (g : Fin 4) (r0 r1 r2 r3 : EReal)
    (h0 : r0 = x0 (ix3 a n (hcol g 0))) (h1 : r1 = x0 (ix3 a n (hcol g 1))) (h2 : r2 = x0 (ix3 a n (hcol g 2))) (h3 : r3 = x0 (ix3 a n (hcol g 3))) :
    (![r0, r1, r2, r3] : Fin 4 → EReal) = fun h => x0 (ix3 a n (hcol g h)) := by
  subst h0 h1 h2 h3
  funext h
  fin_cases h <;> rfl

/-- The scales of `k`: the eight loads are the point's column. -/
theorem ks_eq (x1 : Vec Ideal S2x8x4 .f32) (a : Fin 2) (g : Fin 4) (r0 r1 r2 r3 r4 r5 r6 r7 : EReal)
    (h0 : r0 = x1 (ix3 a 0 g)) (h1 : r1 = x1 (ix3 a 1 g)) (h2 : r2 = x1 (ix3 a 2 g)) (h3 : r3 = x1 (ix3 a 3 g))
    (h4 : r4 = x1 (ix3 a 4 g)) (h5 : r5 = x1 (ix3 a 5 g)) (h6 : r6 = x1 (ix3 a 6 g)) (h7 : r7 = x1 (ix3 a 7 g)) :
    (![r0, r1, r2, r3, r4, r5, r6, r7] : Fin 8 → EReal) = fun j => x1 (ix3 a j g) := by
  subst h0 h1 h2 h3 h4 h5 h6 h7
  funext j
  fin_cases j <;> rfl

/-- A run's value from its loads. -/
theorem runAt_eq {invp invp' : EReal} {q q' : FVec Ideal S512x128 .fp8e4m3} {K V : FVec Ideal S1024x128 .fp8e4m3} {qs qs' : Fin 4 → EReal} {ks ks' : Fin 8 → EReal}
    {osc osc' : FVec Ideal S1x128 .f32} (n : ℕ) (r : Fin 512) (d : Fin 128) (h1 : invp = invp') (h2 : q = q') (h3 : qs = qs') (h4 : ks = ks') (h5 : osc = osc') :
    runAt invp q K V qs ks osc n r d = runAt invp' q' K V qs' ks' osc' n r d := by
  subst h1 h2 h3 h4 h5; rfl

/-- A load from a run's buffer, stored whole last. -/
theorem ldRun (M : Memref sig .tc .vmem S512x128 .f32) (p : FVec Ideal S512x128 .f32) (L : List (View.Piece (Elt Ideal) S512x128 .f32)) (inb)
    (O : Fin 512 → Fin 128 → EReal) (hp : ∀ r d, p (ix2 r d) = O r d) (B : LoadRect S512x128) :
    M.view.readCov (⟨Rect.unit ![0, 0] S512x128.size inb, p⟩ :: L) B = fun j => O (B.idx j 0) (B.idx j 1) := by
  rw [View.readCov_eq_canon', View.canon_cons_unit_lit _ _ _ (by decide)]
  funext j
  exact (congrArg p (ix2_eta (B.idx j)).symm).trans (hp _ _)

/-- The block the point leaves, from its runs: row `128 * n + a` of head `h` is row `4 * a + h` of run `n`. -/
def blockOf (O : Fin 8 → Fin 512 → Fin 128 → EReal) (y : S1x1024x512.Idx) : EReal :=
  O ⟨(y 1).val / 128, by have : (y 1).val < 1024 := (y 1).isLt; omega⟩
    ⟨(y 1).val % 128 * 4 + (y 2).val / 128, by have : (y 2).val < 512 := (y 2).isLt; omega⟩ ⟨(y 2).val % 128, Nat.mod_lt _ (by decide)⟩

/-- One stored piece of the block: head `h` of run `n`. -/
theorem piece_at (O : Fin 8 → Fin 512 → Fin 128 → EReal) (M : Memref sig .tc .vmem S512x128 .f32) (L : List (View.Piece (Elt Ideal) S512x128 .f32)) (n : Fin 8)
    (e : ∀ B : LoadRect S512x128, M.view.readCov (Val := Elt Ideal) L B = fun j => O n (B.idx j 0) (B.idx j 1)) (h : Fin 4) (inb)
    (a b : ℕ) (ha : a = 128 * n.val) (hb : b = 128 * h.val) (inb') (x : S1x128x128.Idx) :
    k0_pay15 (F := Ideal) (M.view.readCov (Val := Elt Ideal) L (⟨![h.val, 0], S128x128.size, ![4, 1], inb⟩ : LoadRect S512x128)) x
      = blockOf O ((Rect.unit (s := S1x1024x512) ![0, a, b] S1x128x128.size inb').emb x) := by
  subst ha hb
  rw [e]
  obtain ⟨x0, a, d, rfl⟩ : ∃ (x0 : Fin 1) (a d : Fin 128), x = ix3 x0 a d := ⟨x 0, x 1, x 2, eq_ix3 x⟩
  pointwise [k0_pay15, blockOf]
  have e1 : ((Rect.unit (s := S1x1024x512) ![0, 128 * n.val, 128 * h.val] S1x128x128.size inb').emb (ix3 x0 a d) 1).val = 128 * n.val + a.val := by
    show 128 * n.val + 1 * a.val = _; omega
  have e2 : ((Rect.unit (s := S1x1024x512) ![0, 128 * n.val, 128 * h.val] S1x128x128.size inb').emb (ix3 x0 a d) 2).val = 128 * h.val + d.val := by
    show 128 * h.val + 1 * d.val = _; omega
  refine congr (congr (congrArg O (Fin.ext ?_)) (Fin.ext ?_)) (Fin.ext ?_)
  · exact (show n.val = (128 * n.val + a.val) / 128 by omega).trans (congrArg (· / 128) e1.symm)
  · exact (show h.val + 4 * a.val = (128 * n.val + a.val) % 128 * 4 + (128 * h.val + d.val) / 128 by omega).trans
      (congrArg₂ (fun p q => p % 128 * 4 + q / 128) e1.symm e2.symm)
  · exact (show d.val = (128 * h.val + d.val) % 128 by omega).trans (congrArg (· % 128) e2.symm)

end Cert.KernelIdeal.Value
-- ==== Proof.PointA.lean ====
/- Case A of the body at a grid point: the packed `q` codes are stored at this point. What each run leaves,
   and the block the point leaves. -/
module

public import proofs.«01_k».proof.Proof.Loads
public import proofs.«01_k».proof.Proof.KernelIdealFrame

@[expose] public section

set_option maxRecDepth 16384

noncomputable section

namespace Cert.KernelIdeal.Value

open Idealize.ShloMosaic Idealize.ShloMosaic.TcCoe Idealize.SL.Sem
open Cert.KernelIdeal Cert.KernelIdeal.Gen

section caseA
variable (c : Dev nD) (i : grid0.Coords) (arg2 : Memref sig .tc .smem S2x8x16 .f32) (harg2 : arg2.IsWhole) (arg3 : Memref sig .tc .smem S2x8x4 .f32) (harg3 : arg3.IsWhole)
  (arg4 : Memref sig .tc .smem S1 .f32) (harg4 : arg4.IsWhole) (arg5 : Memref sig .tc .vmem S1x16384x128 .i8) (harg5 : arg5.IsWhole)
  (arg6 : Memref sig .tc .vmem S1x4096x128 .i8) (harg6 : arg6.IsWhole) (arg7 : Memref sig .tc .vmem S1x4096x128 .i8) (harg7 : arg7.IsWhole)
  (arg8 : Memref sig .tc .vmem S4x128 .f32) (harg8 : arg8.IsWhole) (arg9 : Memref sig .tc .vmem S1x1024x512 .bf16) (harg9 : arg9.IsWhole)
  (arg10 : Memref sig .tc .vmem S4096x128 .i32) (harg10 : arg10.IsWhole) (arg11 : Memref sig .tc .vmem S1024x128 .fp8e4m3) (harg11 : arg11.IsWhole)
  (arg12 : Memref sig .tc .vmem S1024x128 .fp8e4m3) (harg12 : arg12.IsWhole) (arg13 : Memref sig .tc .vmem S512x128 .f32) (harg13 : arg13.IsWhole)
  (x0 : Vec Ideal S2x8x16 .f32) (x1 : Vec Ideal S2x8x4 .f32) (x2 : Vec Ideal S1 .f32) (x3 : Vec Ideal S1x16384x128 .i8)
  (x4 x5 : Vec Ideal S1x4096x128 .i8) (x6 : Vec Ideal S4x128 .f32) (xs0 : Vec Ideal S4096x128 .i32)

/-- The token scales of `k`. -/
theorem ks_A : (![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)] : Fin 8 → EReal) = fun j => x1 (ix3 (i 0) j (i 1)) :=
  ks_eq x1 _ _ _ _ _ _ _ _ _ _
    (ld3_at arg3 harg3 x1 _ _ _ _ _ _ (off_k0 i)) (ld3_at arg3 harg3 x1 _ _ _ _ _ _ (off_k1 i)) (ld3_at arg3 harg3 x1 _ _ _ _ _ _ (off_k2 i)) (ld3_at arg3 harg3 x1 _ _ _ _ _ _ (off_k3 i)) (ld3_at arg3 harg3 x1 _ _ _ _ _ _ (off_k4 i)) (ld3_at arg3 harg3 x1 _ _ _ _ _ _ (off_k5 i)) (ld3_at arg3 harg3 x1 _ _ _ _ _ _ (off_k6 i)) (ld3_at arg3 harg3 x1 _ _ _ _ _ _ (off_k7 i))

/-- The scales of the columns. -/
theorem osc_A : kernelRun0_A.sl.r_2 c i arg4 harg4 arg8 harg8 x2 x6 = k0_pay7 (F := Ideal) (x2 (ix1 0)) fun j : S1x128.Idx => x6 (ix2 (i 1) (j 1)) :=
  congrArg₂ (k0_pay7 (F := Ideal)) (ld1_at arg4 harg4 x2 _ _) (ldRow_at arg8 harg8 x6 _ _ _ (off_v i))

/-- What run 0 leaves. -/
theorem o0_A (B : LoadRect S512x128) : arg13.view.readCov (Val := Elt Ideal) (kernelRun0_A.sl.HS3_1 c i arg2 harg2 arg3 harg3 arg4 harg4 arg5 harg5 arg6 harg6 arg7 harg7 arg8 harg8 arg10 arg11 arg12 x0 x1 x2 x3 x4 x5 x6) B
    = fun j => runOut i x0 x1 x2 (k0_pay3 (F := Ideal) x3) x4 x5 x6 0 (B.idx j 0) (B.idx j 1) :=
  ldRun arg13 _ _ _ _ (fun r d =>
    (run0_at (invp := _)
      (qt := _)
      (q := _)
      (K := k0_pay4 (F := Ideal) i x4)
      (V := k0_pay5 (F := Ideal) i x5)
      (osc := _)
      (qs := ![(kernelRun0_A.sl.r_5 c i arg2 harg2 x0), (kernelRun0_A.sl.r_6 c i arg2 harg2 x0), (kernelRun0_A.sl.r_7 c i arg2 harg2 x0), (kernelRun0_A.sl.r_8 c i arg2 harg2 x0)])
      (ks := ![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)])
      (kl := _)
      (hqt := fun s l => qt_at (kernelRun0_A.sl.r_5 c i arg2 harg2 x0) (kernelRun0_A.sl.r_6 c i arg2 harg2 x0) (kernelRun0_A.sl.r_7 c i arg2 harg2 x0) (kernelRun0_A.sl.r_8 c i arg2 harg2 x0) kernelRun0_A.sl.r_3 s l (head_at s l))
      (hl := rows128 arg11 _ _ (congrArg (k0_pay4 (F := Ideal) i) (ldWhole arg6 harg6 x4 _)) 0 0 rfl _ _)
      (v := _)
      (hv := fun k d => ldRows_at (N := 128) arg12 _ _ (congrArg (k0_pay5 (F := Ideal) i) (ldWhole arg7 harg7 x5 _)) 0 _ _ k d _ (Nat.zero_add _).symm) (r := r) (d := d)).trans
    (runAt_eq 0 r d (congrArg (k0_pay6 (F := Ideal)) (ld1_at arg4 harg4 x2 _ _))
      (ldQ_stored arg10 _ _ (congrArg (k0_pay3 (F := Ideal)) (ldWhole arg5 harg5 x3 _)) _ _ _ (i 1) 0 (off_w i 0))
      (qs_eq x0 _ 0 _ _ _ _ _ (ld3_at arg2 harg2 x0 _ _ _ _ _ _ (off_q0 i 0)) (ld3_at arg2 harg2 x0 _ _ _ _ _ _ (off_q0 i 1)) (ld3_at arg2 harg2 x0 _ _ _ _ _ _ (off_q0 i 2)) (ld3_at arg2 harg2 x0 _ _ _ _ _ _ (off_q0 i 3)))
      (ks_A c i arg3 harg3 x1) (osc_A c i arg4 harg4 arg8 harg8 x2 x6))) B

/-- What run 1 leaves. -/
theorem o1_A (B : LoadRect S512x128) : arg13.view.readCov (Val := Elt Ideal) (kernelRun0_A.sl.HS3_2 c i arg2 harg2 arg3 harg3 arg4 harg4 arg5 harg5 arg6 harg6 arg7 harg7 arg8 harg8 arg10 arg11 arg12 x0 x1 x2 x3 x4 x5 x6) B
    = fun j => runOut i x0 x1 x2 (k0_pay3 (F := Ideal) x3) x4 x5 x6 1 (B.idx j 0) (B.idx j 1) :=
  ldRun arg13 _ _ _ _ (fun r d =>
    (run1_at (invp := _)
      (q := _)
      (K := k0_pay4 (F := Ideal) i x4)
      (V := k0_pay5 (F := Ideal) i x5)
      (osc := _)
      (v48 := _)
      (x := _)
      (y := _)
      (a := _)
      (b := _)
      (qs := ![(kernelRun0_A.sl.r_13 c i arg2 harg2 x0), (kernelRun0_A.sl.r_14 c i arg2 harg2 x0), (kernelRun0_A.sl.r_17 c i arg2 harg2 x0), (kernelRun0_A.sl.r_18 c i arg2 harg2 x0)])
      (ks := ![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)])
      (k0 := _)
      (h0 := rows256 arg11 _ _ (congrArg (k0_pay4 (F := Ideal) i) (ldWhole arg6 harg6 x4 _)) 0 0 rfl _ _)
      (hqt := fun s l => qt_at (kernelRun0_A.sl.r_13 c i arg2 harg2 x0) (kernelRun0_A.sl.r_14 c i arg2 harg2 x0) (kernelRun0_A.sl.r_17 c i arg2 harg2 x0) (kernelRun0_A.sl.r_18 c i arg2 harg2 x0) kernelRun0_A.sl.r_3 s l (head_at s l))
      (v := _)
      (hv := fun k d => ldRows_at (N := 256) arg12 _ _ (congrArg (k0_pay5 (F := Ideal) i) (ldWhole arg7 harg7 x5 _)) 0 _ _ k d _ (Nat.zero_add _).symm) (r := r) (d := d)).trans
    (runAt_eq 1 r d (congrArg (k0_pay6 (F := Ideal)) (ld1_at arg4 harg4 x2 _ _))
      (ldQ_stored arg10 _ _ (congrArg (k0_pay3 (F := Ideal)) (ldWhole arg5 harg5 x3 _)) _ _ _ (i 1) 1 (off_w i 1))
      (qs_eq x0 _ 1 _ _ _ _ _ (ld3_at arg2 harg2 x0 _ _ _ _ _ _ (off_q1 i 0)) (ld3_at arg2 harg2 x0 _ _ _ _ _ _ (off_q1 i 1)) (ld3_at arg2 harg2 x0 _ _ _ _ _ _ (off_q1 i 2)) (ld3_at arg2 harg2 x0 _ _ _ _ _ _ (off_q1 i 3)))
      (ks_A c i arg3 harg3 x1) (osc_A c i arg4 harg4 arg8 harg8 x2 x6))) B

/-- What run 2 leaves. -/
theorem o2_A (B : LoadRect S512x128) : arg13.view.readCov (Val := Elt Ideal) (kernelRun0_A.sl.HS3_3 c i arg2 harg2 arg3 harg3 arg4 harg4 arg5 harg5 arg6 harg6 arg7 harg7 arg8 harg8 arg10 arg11 arg12 x0 x1 x2 x3 x4 x5 x6) B
    = fun j => runOut i x0 x1 x2 (k0_pay3 (F := Ideal) x3) x4 x5 x6 2 (B.idx j 0) (B.idx j 1) :=
  ldRun arg13 _ _ _ _ (fun r d =>
    (run2_at (invp := _)
      (q := _)
      (K := k0_pay4 (F := Ideal) i x4)
      (V := k0_pay5 (F := Ideal) i x5)
      (osc := _)
      (v48 := _)
      (x := _)
      (y := _)
      (a := _)
      (b := _)
      (qs := ![(kernelRun0_A.sl.r_24 c i arg2 harg2 x0), (kernelRun0_A.sl.r_25 c i arg2 harg2 x0), (kernelRun0_A.sl.r_28 c i arg2 harg2 x0), (kernelRun0_A.sl.r_29 c i arg2 harg2 x0)])
      (ks := ![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)])
      (k0 := _)
      (kl := _)
      (h0 := rows256 arg11 _ _ (congrArg (k0_pay4 (F := Ideal) i) (ldWhole arg6 harg6 x4 _)) 0 0 rfl _ _)
      (hqt := fun s l => qt_at (kernelRun0_A.sl.r_24 c i arg2 harg2 x0) (kernelRun0_A.sl.r_25 c i arg2 harg2 x0) (kernelRun0_A.sl.r_28 c i arg2 harg2 x0) (kernelRun0_A.sl.r_29 c i arg2 harg2 x0) kernelRun0_A.sl.r_3 s l (head_at s l))
      (hl := rows128 arg11 _ _ (congrArg (k0_pay4 (F := Ideal) i) (ldWhole arg6 harg6 x4 _)) 2 256 rfl _ _)
      (v := _)
      (hv := fun k d => ldRows_at (N := 384) arg12 _ _ (congrArg (k0_pay5 (F := Ideal) i) (ldWhole arg7 harg7 x5 _)) 0 _ _ k d _ (Nat.zero_add _).symm) (r := r) (d := d)).trans
    (runAt_eq 2 r d (congrArg (k0_pay6 (F := Ideal)) (ld1_at arg4 harg4 x2 _ _))
      (ldQ_stored arg10 _ _ (congrArg (k0_pay3 (F := Ideal)) (ldWhole arg5 harg5 x3 _)) _ _ _ (i 1) 2 (off_w i 2))
      (qs_eq x0 _ 2 _ _ _ _ _ (ld3_at arg2 harg2 x0 _ _ _ _ _ _ (off_q2 i 0)) (ld3_at arg2 harg2 x0 _ _ _ _ _ _ (off_q2 i 1)) (ld3_at arg2 harg2 x0 _ _ _ _ _ _ (off_q2 i 2)) (ld3_at arg2 harg2 x0 _ _ _ _ _ _ (off_q2 i 3)))
      (ks_A c i arg3 harg3 x1) (osc_A c i arg4 harg4 arg8 harg8 x2 x6))) B

/-- What run 3 leaves. -/
theorem o3_A (B : LoadRect S512x128) : arg13.view.readCov (Val := Elt Ideal) (kernelRun0_A.sl.HS3_4 c i arg2 harg2 arg3 harg3 arg4 harg4 arg5 harg5 arg6 harg6 arg7 harg7 arg8 harg8 arg10 arg11 arg12 x0 x1 x2 x3 x4 x5 x6) B
    = fun j => runOut i x0 x1 x2 (k0_pay3 (F := Ideal) x3) x4 x5 x6 3 (B.idx j 0) (B.idx j 1) :=
  ldRun arg13 _ _ _ _ (fun r d =>
    (run3_at (invp := _)
      (qt := _)
      (q := _)
      (K := k0_pay4 (F := Ideal) i x4)
      (V := k0_pay5 (F := Ideal) i x5)
      (osc := _)
      (qs := ![(kernelRun0_A.sl.r_36 c i arg2 harg2 x0), (kernelRun0_A.sl.r_37 c i arg2 harg2 x0), (kernelRun0_A.sl.r_38 c i arg2 harg2 x0), (kernelRun0_A.sl.r_39 c i arg2 harg2 x0)])
      (ks := ![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)])
      (k0 := _)
      (k2 := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (hqt := fun s l => qt_at (kernelRun0_A.sl.r_36 c i arg2 harg2 x0) (kernelRun0_A.sl.r_37 c i arg2 harg2 x0) (kernelRun0_A.sl.r_38 c i arg2 harg2 x0) (kernelRun0_A.sl.r_39 c i arg2 harg2 x0) kernelRun0_A.sl.r_3 s l (head_at s l))
      (v := _)
      (hv := fun k d => ldRows_at (N := 512) arg12 _ _ (congrArg (k0_pay5 (F := Ideal) i) (ldWhole arg7 harg7 x5 _)) 0 _ _ k d _ (Nat.zero_add _).symm) (r := r) (d := d)).trans
    (runAt_eq 3 r d (congrArg (k0_pay6 (F := Ideal)) (ld1_at arg4 harg4 x2 _ _))
      (ldQ_stored arg10 _ _ (congrArg (k0_pay3 (F := Ideal)) (ldWhole arg5 harg5 x3 _)) _ _ _ (i 1) 3 (off_w i 3))
      (qs_eq x0 _ 3 _ _ _ _ _ (ld3_at arg2 harg2 x0 _ _ _ _ _ _ (off_q3 i 0)) (ld3_at arg2 harg2 x0 _ _ _ _ _ _ (off_q3 i 1)) (ld3_at arg2 harg2 x0 _ _ _ _ _ _ (off_q3 i 2)) (ld3_at arg2 harg2 x0 _ _ _ _ _ _ (off_q3 i 3)))
      (ks_A c i arg3 harg3 x1) (osc_A c i arg4 harg4 arg8 harg8 x2 x6))) B

/-- What run 4 leaves. -/
theorem o4_A (B : LoadRect S512x128) : arg13.view.readCov (Val := Elt Ideal) (kernelRun0_A.sl.HS3_5 c i arg2 harg2 arg3 harg3 arg4 harg4 arg5 harg5 arg6 harg6 arg7 harg7 arg8 harg8 arg10 arg11 arg12 x0 x1 x2 x3 x4 x5 x6) B
    = fun j => runOut i x0 x1 x2 (k0_pay3 (F := Ideal) x3) x4 x5 x6 4 (B.idx j 0) (B.idx j 1) :=
  ldRun arg13 _ _ _ _ (fun r d =>
    (run4_at (invp := _)
      (qt := _)
      (q := _)
      (K := k0_pay4 (F := Ideal) i x4)
      (V := k0_pay5 (F := Ideal) i x5)
      (osc := _)
      (qs := ![(kernelRun0_A.sl.r_50 c i arg2 harg2 x0), (kernelRun0_A.sl.r_51 c i arg2 harg2 x0), (kernelRun0_A.sl.r_52 c i arg2 harg2 x0), (kernelRun0_A.sl.r_53 c i arg2 harg2 x0)])
      (ks := ![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)])
      (k0 := _)
      (k2 := _)
      (kl := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (hqt := fun s l => qt_at (kernelRun0_A.sl.r_50 c i arg2 harg2 x0) (kernelRun0_A.sl.r_51 c i arg2 harg2 x0) (kernelRun0_A.sl.r_52 c i arg2 harg2 x0) (kernelRun0_A.sl.r_53 c i arg2 harg2 x0) kernelRun0_A.sl.r_3 s l (head_at s l))
      (hl := rows128 arg11 _ _ (congrArg (k0_pay4 (F := Ideal) i) (ldWhole arg6 harg6 x4 _)) 4 512 rfl _ _)
      (v := _)
      (hv := fun k d => ldRows_at (N := 640) arg12 _ _ (congrArg (k0_pay5 (F := Ideal) i) (ldWhole arg7 harg7 x5 _)) 0 _ _ k d _ (Nat.zero_add _).symm) (r := r) (d := d)).trans
    (runAt_eq 4 r d (congrArg (k0_pay6 (F := Ideal)) (ld1_at arg4 harg4 x2 _ _))
      (ldQ_stored arg10 _ _ (congrArg (k0_pay3 (F := Ideal)) (ldWhole arg5 harg5 x3 _)) _ _ _ (i 1) 4 (off_w i 4))
      (qs_eq x0 _ 4 _ _ _ _ _ (ld3_at arg2 harg2 x0 _ _ _ _ _ _ (off_q4 i 0)) (ld3_at arg2 harg2 x0 _ _ _ _ _ _ (off_q4 i 1)) (ld3_at arg2 harg2 x0 _ _ _ _ _ _ (off_q4 i 2)) (ld3_at arg2 harg2 x0 _ _ _ _ _ _ (off_q4 i 3)))
      (ks_A c i arg3 harg3 x1) (osc_A c i arg4 harg4 arg8 harg8 x2 x6))) B

/-- What run 5 leaves. -/
theorem o5_A (B : LoadRect S512x128) : arg13.view.readCov (Val := Elt Ideal) (kernelRun0_A.sl.HS3_6 c i arg2 harg2 arg3 harg3 arg4 harg4 arg5 harg5 arg6 harg6 arg7 harg7 arg8 harg8 arg10 arg11 arg12 x0 x1 x2 x3 x4 x5 x6) B
    = fun j => runOut i x0 x1 x2 (k0_pay3 (F := Ideal) x3) x4 x5 x6 5 (B.idx j 0) (B.idx j 1) :=
  ldRun arg13 _ _ _ _ (fun r d =>
    (run5_at (invp := _)
      (q := _)
      (K := k0_pay4 (F := Ideal) i x4)
      (V := k0_pay5 (F := Ideal) i x5)
      (osc := _)
      (v48 := _)
      (x := _)
      (y := _)
      (a := _)
      (b := _)
      (qs := ![(kernelRun0_A.sl.r_66 c i arg2 harg2 x0), (kernelRun0_A.sl.r_67 c i arg2 harg2 x0), (kernelRun0_A.sl.r_70 c i arg2 harg2 x0), (kernelRun0_A.sl.r_71 c i arg2 harg2 x0)])
      (ks := ![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)])
      (k0 := _)
      (k2 := _)
      (k4 := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (h4 := rows256 arg11 _ _ (congrArg (k0_pay4 (F := Ideal) i) (ldWhole arg6 harg6 x4 _)) 4 512 rfl _ _)
      (hqt := fun s l => qt_at (kernelRun0_A.sl.r_66 c i arg2 harg2 x0) (kernelRun0_A.sl.r_67 c i arg2 harg2 x0) (kernelRun0_A.sl.r_70 c i arg2 harg2 x0) (kernelRun0_A.sl.r_71 c i arg2 harg2 x0) kernelRun0_A.sl.r_3 s l (head_at s l))
      (v := _)
      (hv := fun k d => ldRows_at (N := 768) arg12 _ _ (congrArg (k0_pay5 (F := Ideal) i) (ldWhole arg7 harg7 x5 _)) 0 _ _ k d _ (Nat.zero_add _).symm) (r := r) (d := d)).trans
    (runAt_eq 5 r d (congrArg (k0_pay6 (F := Ideal)) (ld1_at arg4 harg4 x2 _ _))
      (ldQ_stored arg10 _ _ (congrArg (k0_pay3 (F := Ideal)) (ldWhole arg5 harg5 x3 _)) _ _ _ (i 1) 5 (off_w i 5))
      (qs_eq x0 _ 5 _ _ _ _ _ (ld3_at arg2 harg2 x0 _ _ _ _ _ _ (off_q5 i 0)) (ld3_at arg2 harg2 x0 _ _ _ _ _ _ (off_q5 i 1)) (ld3_at arg2 harg2 x0 _ _ _ _ _ _ (off_q5 i 2)) (ld3_at arg2 harg2 x0 _ _ _ _ _ _ (off_q5 i 3)))
      (ks_A c i arg3 harg3 x1) (osc_A c i arg4 harg4 arg8 harg8 x2 x6))) B

/-- What run 6 leaves. -/
theorem o6_A (B : LoadRect S512x128) : arg13.view.readCov (Val := Elt Ideal) (kernelRun0_A.sl.HS3_7 c i arg2 harg2 arg3 harg3 arg4 harg4 arg5 harg5 arg6 harg6 arg7 harg7 arg8 harg8 arg10 arg11 arg12 x0 x1 x2 x3 x4 x5 x6) B
    = fun j => runOut i x0 x1 x2 (k0_pay3 (F := Ideal) x3) x4 x5 x6 6 (B.idx j 0) (B.idx j 1) :=
  ldRun arg13 _ _ _ _ (fun r d =>
    (run6_at (invp := _)
      (q := _)
      (K := k0_pay4 (F := Ideal) i x4)
      (V := k0_pay5 (F := Ideal) i x5)
      (osc := _)
      (v48 := _)
      (x := _)
      (y := _)
      (a := _)
      (b := _)
      (qs := ![(kernelRun0_A.sl.r_83 c i arg2 harg2 x0), (kernelRun0_A.sl.r_84 c i arg2 harg2 x0), (kernelRun0_A.sl.r_87 c i arg2 harg2 x0), (kernelRun0_A.sl.r_88 c i arg2 harg2 x0)])
      (ks := ![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)])
      (k0 := _)
      (k2 := _)
      (k4 := _)
      (kl := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (h4 := rows256 arg11 _ _ (congrArg (k0_pay4 (F := Ideal) i) (ldWhole arg6 harg6 x4 _)) 4 512 rfl _ _)
      (hqt := fun s l => qt_at (kernelRun0_A.sl.r_83 c i arg2 harg2 x0) (kernelRun0_A.sl.r_84 c i arg2 harg2 x0) (kernelRun0_A.sl.r_87 c i arg2 harg2 x0) (kernelRun0_A.sl.r_88 c i arg2 harg2 x0) kernelRun0_A.sl.r_3 s l (head_at s l))
      (hl := rows128 arg11 _ _ (congrArg (k0_pay4 (F := Ideal) i) (ldWhole arg6 harg6 x4 _)) 6 768 rfl _ _)
      (v := _)
      (hv := fun k d => ldRows_at (N := 896) arg12 _ _ (congrArg (k0_pay5 (F := Ideal) i) (ldWhole arg7 harg7 x5 _)) 0 _ _ k d _ (Nat.zero_add _).symm) (r := r) (d := d)).trans
    (runAt_eq 6 r d (congrArg (k0_pay6 (F := Ideal)) (ld1_at arg4 harg4 x2 _ _))
      (ldQ_stored arg10 _ _ (congrArg (k0_pay3 (F := Ideal)) (ldWhole arg5 harg5 x3 _)) _ _ _ (i 1) 6 (off_w i 6))
      (qs_eq x0 _ 6 _ _ _ _ _ (ld3_at arg2 harg2 x0 _ _ _ _ _ _ (off_q6 i 0)) (ld3_at arg2 harg2 x0 _ _ _ _ _ _ (off_q6 i 1)) (ld3_at arg2 harg2 x0 _ _ _ _ _ _ (off_q6 i 2)) (ld3_at arg2 harg2 x0 _ _ _ _ _ _ (off_q6 i 3)))
      (ks_A c i arg3 harg3 x1) (osc_A c i arg4 harg4 arg8 harg8 x2 x6))) B

/-- What run 7 leaves. -/
theorem o7_A (B : LoadRect S512x128) : arg13.view.readCov (Val := Elt Ideal) (kernelRun0_A.sl.HS3_8 c i arg2 harg2 arg3 harg3 arg4 harg4 arg5 harg5 arg6 harg6 arg7 harg7 arg8 harg8 arg10 arg11 arg12 x0 x1 x2 x3 x4 x5 x6) B
    = fun j => runOut i x0 x1 x2 (k0_pay3 (F := Ideal) x3) x4 x5 x6 7 (B.idx j 0) (B.idx j 1) :=
  ldRun arg13 _ _ _ _ (fun r d =>
    (run7_at (invp := _)
      (qt := _)
      (q := _)
      (K := k0_pay4 (F := Ideal) i x4)
      (V := k0_pay5 (F := Ideal) i x5)
      (osc := _)
      (qs := ![(kernelRun0_A.sl.r_104 c i arg2 harg2 x0), (kernelRun0_A.sl.r_105 c i arg2 harg2 x0), (kernelRun0_A.sl.r_106 c i arg2 harg2 x0), (kernelRun0_A.sl.r_107 c i arg2 harg2 x0)])
      (ks := ![(kernelRun0_A.sl.r_11 c i arg3 harg3 x1), (kernelRun0_A.sl.r_19 c i arg3 harg3 x1), (kernelRun0_A.sl.r_33 c i arg3 harg3 x1), (kernelRun0_A.sl.r_47 c i arg3 harg3 x1), (kernelRun0_A.sl.r_61 c i arg3 harg3 x1), (kernelRun0_A.sl.r_78 c i arg3 harg3 x1), (kernelRun0_A.sl.r_101 c i arg3 harg3 x1), (kernelRun0_A.sl.r_125 c i arg3 harg3 x1)])
      (k0 := _)
      (k2 := _)
      (k4 := _)
      (k6 := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (h4 := rows256 arg11 _ _ (congrArg (k0_pay4 (F := Ideal) i) (ldWhole arg6 harg6 x4 _)) 4 512 rfl _ _)
      (h6 := rows256 arg11 _ _ (congrArg (k0_pay4 (F := Ideal) i) (ldWhole arg6 harg6 x4 _)) 6 768 rfl _ _)
      (hqt := fun s l => qt_at (kernelRun0_A.sl.r_104 c i arg2 harg2 x0) (kernelRun0_A.sl.r_105 c i arg2 harg2 x0) (kernelRun0_A.sl.r_106 c i arg2 harg2 x0) (kernelRun0_A.sl.r_107 c i arg2 harg2 x0) kernelRun0_A.sl.r_3 s l (head_at s l))
      (v := _)
      (hv := fun k d => ldRows_at (N := 1024) arg12 _ _ (congrArg (k0_pay5 (F := Ideal) i) (ldWhole arg7 harg7 x5 _)) 0 _ _ k d _ (Nat.zero_add _).symm) (r := r) (d := d)).trans
    (runAt_eq 7 r d (congrArg (k0_pay6 (F := Ideal)) (ld1_at arg4 harg4 x2 _ _))
      (ldQ_stored arg10 _ _ (congrArg (k0_pay3 (F := Ideal)) (ldWhole arg5 harg5 x3 _)) _ _ _ (i 1) 7 (off_w i 7))
      (qs_eq x0 _ 7 _ _ _ _ _ (ld3_at arg2 harg2 x0 _ _ _ _ _ _ (off_q7 i 0)) (ld3_at arg2 harg2 x0 _ _ _ _ _ _ (off_q7 i 1)) (ld3_at arg2 harg2 x0 _ _ _ _ _ _ (off_q7 i 2)) (ld3_at arg2 harg2 x0 _ _ _ _ _ _ (off_q7 i 3)))
      (ks_A c i arg3 harg3 x1) (osc_A c i arg4 harg4 arg8 harg8 x2 x6))) B

/-- The block the point leaves: row `128 * n + a` of head `h` is row `4 * a + h` of run `n`. -/
theorem out_A (hc0 : cond0_0 i) : out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6
    = blockOf (runOut i x0 x1 x2 (k0_pay3 (F := Ideal) x3) x4 x5 x6) := by
  have pc := piece_at (runOut i x0 x1 x2 (k0_pay3 (F := Ideal) x3) x4 x5 x6) arg13
  have e0 := o0_A c i arg2 harg2 arg3 harg3 arg4 harg4 arg5 harg5 arg6 harg6 arg7 harg7 arg8 harg8 arg10 arg11 arg12 arg13 x0 x1 x2 x3 x4 x5 x6
  have e1 := o1_A c i arg2 harg2 arg3 harg3 arg4 harg4 arg5 harg5 arg6 harg6 arg7 harg7 arg8 harg8 arg10 arg11 arg12 arg13 x0 x1 x2 x3 x4 x5 x6
  have e2 := o2_A c i arg2 harg2 arg3 harg3 arg4 harg4 arg5 harg5 arg6 harg6 arg7 harg7 arg8 harg8 arg10 arg11 arg12 arg13 x0 x1 x2 x3 x4 x5 x6
  have e3 := o3_A c i arg2 harg2 arg3 harg3 arg4 harg4 arg5 harg5 arg6 harg6 arg7 harg7 arg8 harg8 arg10 arg11 arg12 arg13 x0 x1 x2 x3 x4 x5 x6
  have e4 := o4_A c i arg2 harg2 arg3 harg3 arg4 harg4 arg5 harg5 arg6 harg6 arg7 harg7 arg8 harg8 arg10 arg11 arg12 arg13 x0 x1 x2 x3 x4 x5 x6
  have e5 := o5_A c i arg2 harg2 arg3 harg3 arg4 harg4 arg5 harg5 arg6 harg6 arg7 harg7 arg8 harg8 arg10 arg11 arg12 arg13 x0 x1 x2 x3 x4 x5 x6
  have e6 := o6_A c i arg2 harg2 arg3 harg3 arg4 harg4 arg5 harg5 arg6 harg6 arg7 harg7 arg8 harg8 arg10 arg11 arg12 arg13 x0 x1 x2 x3 x4 x5 x6
  have e7 := o7_A c i arg2 harg2 arg3 harg3 arg4 harg4 arg5 harg5 arg6 harg6 arg7 harg7 arg8 harg8 arg10 arg11 arg12 arg13 x0 x1 x2 x3 x4 x5 x6
  have hp : View.PiecesOf (blockOf (runOut i x0 x1 x2 (k0_pay3 (F := Ideal) x3) x4 x5 x6)) (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6).1 :=
    ⟨fun x => pc _ 7 e7 3 (by decide) 896 384 rfl rfl (by decide) x,
     fun x => pc _ 7 e7 2 (by decide) 896 256 rfl rfl (by decide) x,
     fun x => pc _ 7 e7 1 (by decide) 896 128 rfl rfl (by decide) x,
     fun x => pc _ 7 e7 0 (by decide) 896 0 rfl rfl (by decide) x,
     fun x => pc _ 6 e6 3 (by decide) 768 384 rfl rfl (by decide) x,
     fun x => pc _ 6 e6 2 (by decide) 768 256 rfl rfl (by decide) x,
     fun x => pc _ 6 e6 1 (by decide) 768 128 rfl rfl (by decide) x,
     fun x => pc _ 6 e6 0 (by decide) 768 0 rfl rfl (by decide) x,
     fun x => pc _ 5 e5 3 (by decide) 640 384 rfl rfl (by decide) x,
     fun x => pc _ 5 e5 2 (by decide) 640 256 rfl rfl (by decide) x,
     fun x => pc _ 5 e5 1 (by decide) 640 128 rfl rfl (by decide) x,
     fun x => pc _ 5 e5 0 (by decide) 640 0 rfl rfl (by decide) x,
     fun x => pc _ 4 e4 3 (by decide) 512 384 rfl rfl (by decide) x,
     fun x => pc _ 4 e4 2 (by decide) 512 256 rfl rfl (by decide) x,
     fun x => pc _ 4 e4 1 (by decide) 512 128 rfl rfl (by decide) x,
     fun x => pc _ 4 e4 0 (by decide) 512 0 rfl rfl (by decide) x,
     fun x => pc _ 3 e3 3 (by decide) 384 384 rfl rfl (by decide) x,
     fun x => pc _ 3 e3 2 (by decide) 384 256 rfl rfl (by decide) x,
     fun x => pc _ 3 e3 1 (by decide) 384 128 rfl rfl (by decide) x,
     fun x => pc _ 3 e3 0 (by decide) 384 0 rfl rfl (by decide) x,
     fun x => pc _ 2 e2 3 (by decide) 256 384 rfl rfl (by decide) x,
     fun x => pc _ 2 e2 2 (by decide) 256 256 rfl rfl (by decide) x,
     fun x => pc _ 2 e2 1 (by decide) 256 128 rfl rfl (by decide) x,
     fun x => pc _ 2 e2 0 (by decide) 256 0 rfl rfl (by decide) x,
     fun x => pc _ 1 e1 3 (by decide) 128 384 rfl rfl (by decide) x,
     fun x => pc _ 1 e1 2 (by decide) 128 256 rfl rfl (by decide) x,
     fun x => pc _ 1 e1 1 (by decide) 128 128 rfl rfl (by decide) x,
     fun x => pc _ 1 e1 0 (by decide) 128 0 rfl rfl (by decide) x,
     fun x => pc _ 0 e0 3 (by decide) 0 384 rfl rfl (by decide) x,
     fun x => pc _ 0 e0 2 (by decide) 0 256 rfl rfl (by decide) x,
     fun x => pc _ 0 e0 1 (by decide) 0 128 rfl rfl (by decide) x,
     fun x => pc _ 0 e0 0 (by decide) 0 0 rfl rfl (by decide) x, trivial⟩
  unfold out0_A_7
  rw [View.read_writes_junk_eq_canon]
  funext y
  exact View.canon_apply_of_pieces _ _ hp.mem y (cover0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 y)

/-- The packed codes the point leaves in the scratch. -/
theorem sout_A (hc0 : cond0_0 i) : sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = k0_pay3 (F := Ideal) x3 := by
  unfold sout0_A_0
  rw [View.read_writes_junk_eq_canon]
  refine Eq.trans (View.canon_cons_unit_lit inb_S4096x128_S4096x128_0_0 _ [] (by decide)) ?_
  exact congrArg (k0_pay3 (F := Ideal)) (ldWhole arg5 harg5 x3 _)

end caseA

end Cert.KernelIdeal.Value
-- ==== Proof.PointB.lean ====
/- Case B of the body at a grid point: the packed `q` codes are those the point before left. What each run leaves,
   and the block the point leaves. -/
module

public import proofs.«01_k».proof.Proof.Loads
public import proofs.«01_k».proof.Proof.KernelIdealFrame

@[expose] public section

set_option maxRecDepth 16384

noncomputable section

namespace Cert.KernelIdeal.Value

open Idealize.ShloMosaic Idealize.ShloMosaic.TcCoe Idealize.SL.Sem
open Cert.KernelIdeal Cert.KernelIdeal.Gen

section caseB
variable (c : Dev nD) (i : grid0.Coords) (arg2 : Memref sig .tc .smem S2x8x16 .f32) (harg2 : arg2.IsWhole) (arg3 : Memref sig .tc .smem S2x8x4 .f32) (harg3 : arg3.IsWhole)
  (arg4 : Memref sig .tc .smem S1 .f32) (harg4 : arg4.IsWhole) (arg5 : Memref sig .tc .vmem S1x16384x128 .i8) (harg5 : arg5.IsWhole)
  (arg6 : Memref sig .tc .vmem S1x4096x128 .i8) (harg6 : arg6.IsWhole) (arg7 : Memref sig .tc .vmem S1x4096x128 .i8) (harg7 : arg7.IsWhole)
  (arg8 : Memref sig .tc .vmem S4x128 .f32) (harg8 : arg8.IsWhole) (arg9 : Memref sig .tc .vmem S1x1024x512 .bf16) (harg9 : arg9.IsWhole)
  (arg10 : Memref sig .tc .vmem S4096x128 .i32) (harg10 : arg10.IsWhole) (arg11 : Memref sig .tc .vmem S1024x128 .fp8e4m3) (harg11 : arg11.IsWhole)
  (arg12 : Memref sig .tc .vmem S1024x128 .fp8e4m3) (harg12 : arg12.IsWhole) (arg13 : Memref sig .tc .vmem S512x128 .f32) (harg13 : arg13.IsWhole)
  (x0 : Vec Ideal S2x8x16 .f32) (x1 : Vec Ideal S2x8x4 .f32) (x2 : Vec Ideal S1 .f32) (x3 : Vec Ideal S1x16384x128 .i8)
  (x4 x5 : Vec Ideal S1x4096x128 .i8) (x6 : Vec Ideal S4x128 .f32) (xs0 : Vec Ideal S4096x128 .i32)

/-- The token scales of `k`. -/
theorem ks_B : (![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)] : Fin 8 → EReal) = fun j => x1 (ix3 (i 0) j (i 1)) :=
  ks_eq x1 _ _ _ _ _ _ _ _ _ _
    (ld3_at arg3 harg3 x1 _ _ _ _ _ _ (off_k0 i)) (ld3_at arg3 harg3 x1 _ _ _ _ _ _ (off_k1 i)) (ld3_at arg3 harg3 x1 _ _ _ _ _ _ (off_k2 i)) (ld3_at arg3 harg3 x1 _ _ _ _ _ _ (off_k3 i)) (ld3_at arg3 harg3 x1 _ _ _ _ _ _ (off_k4 i)) (ld3_at arg3 harg3 x1 _ _ _ _ _ _ (off_k5 i)) (ld3_at arg3 harg3 x1 _ _ _ _ _ _ (off_k6 i)) (ld3_at arg3 harg3 x1 _ _ _ _ _ _ (off_k7 i))

/-- The scales of the columns. -/
theorem osc_B : kernelRun0_B.sl.r_2 c i arg4 harg4 arg8 harg8 x2 x6 = k0_pay7 (F := Ideal) (x2 (ix1 0)) fun j : S1x128.Idx => x6 (ix2 (i 1) (j 1)) :=
  congrArg₂ (k0_pay7 (F := Ideal)) (ld1_at arg4 harg4 x2 _ _) (ldRow_at arg8 harg8 x6 _ _ _ (off_v i))

/-- What run 0 leaves. -/
theorem o0_B (B : LoadRect S512x128) : arg13.view.readCov (Val := Elt Ideal) (kernelRun0_B.sl.HS3_1 c i arg2 harg2 arg3 harg3 arg4 harg4 arg6 harg6 arg7 harg7 arg8 harg8 arg10 harg10 arg11 arg12 x0 x1 x2 x4 x5 x6 xs0) B
    = fun j => runOut i x0 x1 x2 xs0 x4 x5 x6 0 (B.idx j 0) (B.idx j 1) :=
  ldRun arg13 _ _ _ _ (fun r d =>
    (run0_at (invp := _)
      (qt := _)
      (q := _)
      (K := k0_pay4 (F := Ideal) i x4)
      (V := k0_pay5 (F := Ideal) i x5)
      (osc := _)
      (qs := ![(kernelRun0_B.sl.r_5 c i arg2 harg2 x0), (kernelRun0_B.sl.r_6 c i arg2 harg2 x0), (kernelRun0_B.sl.r_7 c i arg2 harg2 x0), (kernelRun0_B.sl.r_8 c i arg2 harg2 x0)])
      (ks := ![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)])
      (kl := _)
      (hqt := fun s l => qt_at (kernelRun0_B.sl.r_5 c i arg2 harg2 x0) (kernelRun0_B.sl.r_6 c i arg2 harg2 x0) (kernelRun0_B.sl.r_7 c i arg2 harg2 x0) (kernelRun0_B.sl.r_8 c i arg2 harg2 x0) kernelRun0_B.sl.r_3 s l (head_at s l))
      (hl := rows128 arg11 _ _ (congrArg (k0_pay4 (F := Ideal) i) (ldWhole arg6 harg6 x4 _)) 0 0 rfl _ _)
      (v := _)
      (hv := fun k d => ldRows_at (N := 128) arg12 _ _ (congrArg (k0_pay5 (F := Ideal) i) (ldWhole arg7 harg7 x5 _)) 0 _ _ k d _ (Nat.zero_add _).symm) (r := r) (d := d)).trans
    (runAt_eq 0 r d (congrArg (k0_pay6 (F := Ideal)) (ld1_at arg4 harg4 x2 _ _))
      (ldQ_kept arg10 harg10 xs0 _ _ (i 1) 0 (off_w i 0))
      (qs_eq x0 _ 0 _ _ _ _ _ (ld3_at arg2 harg2 x0 _ _ _ _ _ _ (off_q0 i 0)) (ld3_at arg2 harg2 x0 _ _ _ _ _ _ (off_q0 i 1)) (ld3_at arg2 harg2 x0 _ _ _ _ _ _ (off_q0 i 2)) (ld3_at arg2 harg2 x0 _ _ _ _ _ _ (off_q0 i 3)))
      (ks_B c i arg3 harg3 x1) (osc_B c i arg4 harg4 arg8 harg8 x2 x6))) B

/-- What run 1 leaves. -/
theorem o1_B (B : LoadRect S512x128) : arg13.view.readCov (Val := Elt Ideal) (kernelRun0_B.sl.HS3_2 c i arg2 harg2 arg3 harg3 arg4 harg4 arg6 harg6 arg7 harg7 arg8 harg8 arg10 harg10 arg11 arg12 x0 x1 x2 x4 x5 x6 xs0) B
    = fun j => runOut i x0 x1 x2 xs0 x4 x5 x6 1 (B.idx j 0) (B.idx j 1) :=
  ldRun arg13 _ _ _ _ (fun r d =>
    (run1_at (invp := _)
      (q := _)
      (K := k0_pay4 (F := Ideal) i x4)
      (V := k0_pay5 (F := Ideal) i x5)
      (osc := _)
      (v48 := _)
      (x := _)
      (y := _)
      (a := _)
      (b := _)
      (qs := ![(kernelRun0_B.sl.r_13 c i arg2 harg2 x0), (kernelRun0_B.sl.r_14 c i arg2 harg2 x0), (kernelRun0_B.sl.r_17 c i arg2 harg2 x0), (kernelRun0_B.sl.r_18 c i arg2 harg2 x0)])
      (ks := ![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)])
      (k0 := _)
      (h0 := rows256 arg11 _ _ (congrArg (k0_pay4 (F := Ideal) i) (ldWhole arg6 harg6 x4 _)) 0 0 rfl _ _)
      (hqt := fun s l => qt_at (kernelRun0_B.sl.r_13 c i arg2 harg2 x0) (kernelRun0_B.sl.r_14 c i arg2 harg2 x0) (kernelRun0_B.sl.r_17 c i arg2 harg2 x0) (kernelRun0_B.sl.r_18 c i arg2 harg2 x0) kernelRun0_B.sl.r_3 s l (head_at s l))
      (v := _)
      (hv := fun k d => ldRows_at (N := 256) arg12 _ _ (congrArg (k0_pay5 (F := Ideal) i) (ldWhole arg7 harg7 x5 _)) 0 _ _ k d _ (Nat.zero_add _).symm) (r := r) (d := d)).trans
    (runAt_eq 1 r d (congrArg (k0_pay6 (F := Ideal)) (ld1_at arg4 harg4 x2 _ _))
      (ldQ_kept arg10 harg10 xs0 _ _ (i 1) 1 (off_w i 1))
      (qs_eq x0 _ 1 _ _ _ _ _ (ld3_at arg2 harg2 x0 _ _ _ _ _ _ (off_q1 i 0)) (ld3_at arg2 harg2 x0 _ _ _ _ _ _ (off_q1 i 1)) (ld3_at arg2 harg2 x0 _ _ _ _ _ _ (off_q1 i 2)) (ld3_at arg2 harg2 x0 _ _ _ _ _ _ (off_q1 i 3)))
      (ks_B c i arg3 harg3 x1) (osc_B c i arg4 harg4 arg8 harg8 x2 x6))) B

/-- What run 2 leaves. -/
theorem o2_B (B : LoadRect S512x128) : arg13.view.readCov (Val := Elt Ideal) (kernelRun0_B.sl.HS3_3 c i arg2 harg2 arg3 harg3 arg4 harg4 arg6 harg6 arg7 harg7 arg8 harg8 arg10 harg10 arg11 arg12 x0 x1 x2 x4 x5 x6 xs0) B
    = fun j => runOut i x0 x1 x2 xs0 x4 x5 x6 2 (B.idx j 0) (B.idx j 1) :=
  ldRun arg13 _ _ _ _ (fun r d =>
    (run2_at (invp := _)
      (q := _)
      (K := k0_pay4 (F := Ideal) i x4)
      (V := k0_pay5 (F := Ideal) i x5)
      (osc := _)
      (v48 := _)
      (x := _)
      (y := _)
      (a := _)
      (b := _)
      (qs := ![(kernelRun0_B.sl.r_24 c i arg2 harg2 x0), (kernelRun0_B.sl.r_25 c i arg2 harg2 x0), (kernelRun0_B.sl.r_28 c i arg2 harg2 x0), (kernelRun0_B.sl.r_29 c i arg2 harg2 x0)])
      (ks := ![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)])
      (k0 := _)
      (kl := _)
      (h0 := rows256 arg11 _ _ (congrArg (k0_pay4 (F := Ideal) i) (ldWhole arg6 harg6 x4 _)) 0 0 rfl _ _)
      (hqt := fun s l => qt_at (kernelRun0_B.sl.r_24 c i arg2 harg2 x0) (kernelRun0_B.sl.r_25 c i arg2 harg2 x0) (kernelRun0_B.sl.r_28 c i arg2 harg2 x0) (kernelRun0_B.sl.r_29 c i arg2 harg2 x0) kernelRun0_B.sl.r_3 s l (head_at s l))
      (hl := rows128 arg11 _ _ (congrArg (k0_pay4 (F := Ideal) i) (ldWhole arg6 harg6 x4 _)) 2 256 rfl _ _)
      (v := _)
      (hv := fun k d => ldRows_at (N := 384) arg12 _ _ (congrArg (k0_pay5 (F := Ideal) i) (ldWhole arg7 harg7 x5 _)) 0 _ _ k d _ (Nat.zero_add _).symm) (r := r) (d := d)).trans
    (runAt_eq 2 r d (congrArg (k0_pay6 (F := Ideal)) (ld1_at arg4 harg4 x2 _ _))
      (ldQ_kept arg10 harg10 xs0 _ _ (i 1) 2 (off_w i 2))
      (qs_eq x0 _ 2 _ _ _ _ _ (ld3_at arg2 harg2 x0 _ _ _ _ _ _ (off_q2 i 0)) (ld3_at arg2 harg2 x0 _ _ _ _ _ _ (off_q2 i 1)) (ld3_at arg2 harg2 x0 _ _ _ _ _ _ (off_q2 i 2)) (ld3_at arg2 harg2 x0 _ _ _ _ _ _ (off_q2 i 3)))
      (ks_B c i arg3 harg3 x1) (osc_B c i arg4 harg4 arg8 harg8 x2 x6))) B

/-- What run 3 leaves. -/
theorem o3_B (B : LoadRect S512x128) : arg13.view.readCov (Val := Elt Ideal) (kernelRun0_B.sl.HS3_4 c i arg2 harg2 arg3 harg3 arg4 harg4 arg6 harg6 arg7 harg7 arg8 harg8 arg10 harg10 arg11 arg12 x0 x1 x2 x4 x5 x6 xs0) B
    = fun j => runOut i x0 x1 x2 xs0 x4 x5 x6 3 (B.idx j 0) (B.idx j 1) :=
  ldRun arg13 _ _ _ _ (fun r d =>
    (run3_at (invp := _)
      (qt := _)
      (q := _)
      (K := k0_pay4 (F := Ideal) i x4)
      (V := k0_pay5 (F := Ideal) i x5)
      (osc := _)
      (qs := ![(kernelRun0_B.sl.r_36 c i arg2 harg2 x0), (kernelRun0_B.sl.r_37 c i arg2 harg2 x0), (kernelRun0_B.sl.r_38 c i arg2 harg2 x0), (kernelRun0_B.sl.r_39 c i arg2 harg2 x0)])
      (ks := ![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)])
      (k0 := _)
      (k2 := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (hqt := fun s l => qt_at (kernelRun0_B.sl.r_36 c i arg2 harg2 x0) (kernelRun0_B.sl.r_37 c i arg2 harg2 x0) (kernelRun0_B.sl.r_38 c i arg2 harg2 x0) (kernelRun0_B.sl.r_39 c i arg2 harg2 x0) kernelRun0_B.sl.r_3 s l (head_at s l))
      (v := _)
      (hv := fun k d => ldRows_at (N := 512) arg12 _ _ (congrArg (k0_pay5 (F := Ideal) i) (ldWhole arg7 harg7 x5 _)) 0 _ _ k d _ (Nat.zero_add _).symm) (r := r) (d := d)).trans
    (runAt_eq 3 r d (congrArg (k0_pay6 (F := Ideal)) (ld1_at arg4 harg4 x2 _ _))
      (ldQ_kept arg10 harg10 xs0 _ _ (i 1) 3 (off_w i 3))
      (qs_eq x0 _ 3 _ _ _ _ _ (ld3_at arg2 harg2 x0 _ _ _ _ _ _ (off_q3 i 0)) (ld3_at arg2 harg2 x0 _ _ _ _ _ _ (off_q3 i 1)) (ld3_at arg2 harg2 x0 _ _ _ _ _ _ (off_q3 i 2)) (ld3_at arg2 harg2 x0 _ _ _ _ _ _ (off_q3 i 3)))
      (ks_B c i arg3 harg3 x1) (osc_B c i arg4 harg4 arg8 harg8 x2 x6))) B

/-- What run 4 leaves. -/
theorem o4_B (B : LoadRect S512x128) : arg13.view.readCov (Val := Elt Ideal) (kernelRun0_B.sl.HS3_5 c i arg2 harg2 arg3 harg3 arg4 harg4 arg6 harg6 arg7 harg7 arg8 harg8 arg10 harg10 arg11 arg12 x0 x1 x2 x4 x5 x6 xs0) B
    = fun j => runOut i x0 x1 x2 xs0 x4 x5 x6 4 (B.idx j 0) (B.idx j 1) :=
  ldRun arg13 _ _ _ _ (fun r d =>
    (run4_at (invp := _)
      (qt := _)
      (q := _)
      (K := k0_pay4 (F := Ideal) i x4)
      (V := k0_pay5 (F := Ideal) i x5)
      (osc := _)
      (qs := ![(kernelRun0_B.sl.r_50 c i arg2 harg2 x0), (kernelRun0_B.sl.r_51 c i arg2 harg2 x0), (kernelRun0_B.sl.r_52 c i arg2 harg2 x0), (kernelRun0_B.sl.r_53 c i arg2 harg2 x0)])
      (ks := ![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)])
      (k0 := _)
      (k2 := _)
      (kl := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (hqt := fun s l => qt_at (kernelRun0_B.sl.r_50 c i arg2 harg2 x0) (kernelRun0_B.sl.r_51 c i arg2 harg2 x0) (kernelRun0_B.sl.r_52 c i arg2 harg2 x0) (kernelRun0_B.sl.r_53 c i arg2 harg2 x0) kernelRun0_B.sl.r_3 s l (head_at s l))
      (hl := rows128 arg11 _ _ (congrArg (k0_pay4 (F := Ideal) i) (ldWhole arg6 harg6 x4 _)) 4 512 rfl _ _)
      (v := _)
      (hv := fun k d => ldRows_at (N := 640) arg12 _ _ (congrArg (k0_pay5 (F := Ideal) i) (ldWhole arg7 harg7 x5 _)) 0 _ _ k d _ (Nat.zero_add _).symm) (r := r) (d := d)).trans
    (runAt_eq 4 r d (congrArg (k0_pay6 (F := Ideal)) (ld1_at arg4 harg4 x2 _ _))
      (ldQ_kept arg10 harg10 xs0 _ _ (i 1) 4 (off_w i 4))
      (qs_eq x0 _ 4 _ _ _ _ _ (ld3_at arg2 harg2 x0 _ _ _ _ _ _ (off_q4 i 0)) (ld3_at arg2 harg2 x0 _ _ _ _ _ _ (off_q4 i 1)) (ld3_at arg2 harg2 x0 _ _ _ _ _ _ (off_q4 i 2)) (ld3_at arg2 harg2 x0 _ _ _ _ _ _ (off_q4 i 3)))
      (ks_B c i arg3 harg3 x1) (osc_B c i arg4 harg4 arg8 harg8 x2 x6))) B

/-- What run 5 leaves. -/
theorem o5_B (B : LoadRect S512x128) : arg13.view.readCov (Val := Elt Ideal) (kernelRun0_B.sl.HS3_6 c i arg2 harg2 arg3 harg3 arg4 harg4 arg6 harg6 arg7 harg7 arg8 harg8 arg10 harg10 arg11 arg12 x0 x1 x2 x4 x5 x6 xs0) B
    = fun j => runOut i x0 x1 x2 xs0 x4 x5 x6 5 (B.idx j 0) (B.idx j 1) :=
  ldRun arg13 _ _ _ _ (fun r d =>
    (run5_at (invp := _)
      (q := _)
      (K := k0_pay4 (F := Ideal) i x4)
      (V := k0_pay5 (F := Ideal) i x5)
      (osc := _)
      (v48 := _)
      (x := _)
      (y := _)
      (a := _)
      (b := _)
      (qs := ![(kernelRun0_B.sl.r_66 c i arg2 harg2 x0), (kernelRun0_B.sl.r_67 c i arg2 harg2 x0), (kernelRun0_B.sl.r_70 c i arg2 harg2 x0), (kernelRun0_B.sl.r_71 c i arg2 harg2 x0)])
      (ks := ![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)])
      (k0 := _)
      (k2 := _)
      (k4 := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (h4 := rows256 arg11 _ _ (congrArg (k0_pay4 (F := Ideal) i) (ldWhole arg6 harg6 x4 _)) 4 512 rfl _ _)
      (hqt := fun s l => qt_at (kernelRun0_B.sl.r_66 c i arg2 harg2 x0) (kernelRun0_B.sl.r_67 c i arg2 harg2 x0) (kernelRun0_B.sl.r_70 c i arg2 harg2 x0) (kernelRun0_B.sl.r_71 c i arg2 harg2 x0) kernelRun0_B.sl.r_3 s l (head_at s l))
      (v := _)
      (hv := fun k d => ldRows_at (N := 768) arg12 _ _ (congrArg (k0_pay5 (F := Ideal) i) (ldWhole arg7 harg7 x5 _)) 0 _ _ k d _ (Nat.zero_add _).symm) (r := r) (d := d)).trans
    (runAt_eq 5 r d (congrArg (k0_pay6 (F := Ideal)) (ld1_at arg4 harg4 x2 _ _))
      (ldQ_kept arg10 harg10 xs0 _ _ (i 1) 5 (off_w i 5))
      (qs_eq x0 _ 5 _ _ _ _ _ (ld3_at arg2 harg2 x0 _ _ _ _ _ _ (off_q5 i 0)) (ld3_at arg2 harg2 x0 _ _ _ _ _ _ (off_q5 i 1)) (ld3_at arg2 harg2 x0 _ _ _ _ _ _ (off_q5 i 2)) (ld3_at arg2 harg2 x0 _ _ _ _ _ _ (off_q5 i 3)))
      (ks_B c i arg3 harg3 x1) (osc_B c i arg4 harg4 arg8 harg8 x2 x6))) B

/-- What run 6 leaves. -/
theorem o6_B (B : LoadRect S512x128) : arg13.view.readCov (Val := Elt Ideal) (kernelRun0_B.sl.HS3_7 c i arg2 harg2 arg3 harg3 arg4 harg4 arg6 harg6 arg7 harg7 arg8 harg8 arg10 harg10 arg11 arg12 x0 x1 x2 x4 x5 x6 xs0) B
    = fun j => runOut i x0 x1 x2 xs0 x4 x5 x6 6 (B.idx j 0) (B.idx j 1) :=
  ldRun arg13 _ _ _ _ (fun r d =>
    (run6_at (invp := _)
      (q := _)
      (K := k0_pay4 (F := Ideal) i x4)
      (V := k0_pay5 (F := Ideal) i x5)
      (osc := _)
      (v48 := _)
      (x := _)
      (y := _)
      (a := _)
      (b := _)
      (qs := ![(kernelRun0_B.sl.r_83 c i arg2 harg2 x0), (kernelRun0_B.sl.r_84 c i arg2 harg2 x0), (kernelRun0_B.sl.r_87 c i arg2 harg2 x0), (kernelRun0_B.sl.r_88 c i arg2 harg2 x0)])
      (ks := ![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)])
      (k0 := _)
      (k2 := _)
      (k4 := _)
      (kl := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (h4 := rows256 arg11 _ _ (congrArg (k0_pay4 (F := Ideal) i) (ldWhole arg6 harg6 x4 _)) 4 512 rfl _ _)
      (hqt := fun s l => qt_at (kernelRun0_B.sl.r_83 c i arg2 harg2 x0) (kernelRun0_B.sl.r_84 c i arg2 harg2 x0) (kernelRun0_B.sl.r_87 c i arg2 harg2 x0) (kernelRun0_B.sl.r_88 c i arg2 harg2 x0) kernelRun0_B.sl.r_3 s l (head_at s l))
      (hl := rows128 arg11 _ _ (congrArg (k0_pay4 (F := Ideal) i) (ldWhole arg6 harg6 x4 _)) 6 768 rfl _ _)
      (v := _)
      (hv := fun k d => ldRows_at (N := 896) arg12 _ _ (congrArg (k0_pay5 (F := Ideal) i) (ldWhole arg7 harg7 x5 _)) 0 _ _ k d _ (Nat.zero_add _).symm) (r := r) (d := d)).trans
    (runAt_eq 6 r d (congrArg (k0_pay6 (F := Ideal)) (ld1_at arg4 harg4 x2 _ _))
      (ldQ_kept arg10 harg10 xs0 _ _ (i 1) 6 (off_w i 6))
      (qs_eq x0 _ 6 _ _ _ _ _ (ld3_at arg2 harg2 x0 _ _ _ _ _ _ (off_q6 i 0)) (ld3_at arg2 harg2 x0 _ _ _ _ _ _ (off_q6 i 1)) (ld3_at arg2 harg2 x0 _ _ _ _ _ _ (off_q6 i 2)) (ld3_at arg2 harg2 x0 _ _ _ _ _ _ (off_q6 i 3)))
      (ks_B c i arg3 harg3 x1) (osc_B c i arg4 harg4 arg8 harg8 x2 x6))) B

/-- What run 7 leaves. -/
theorem o7_B (B : LoadRect S512x128) : arg13.view.readCov (Val := Elt Ideal) (kernelRun0_B.sl.HS3_8 c i arg2 harg2 arg3 harg3 arg4 harg4 arg6 harg6 arg7 harg7 arg8 harg8 arg10 harg10 arg11 arg12 x0 x1 x2 x4 x5 x6 xs0) B
    = fun j => runOut i x0 x1 x2 xs0 x4 x5 x6 7 (B.idx j 0) (B.idx j 1) :=
  ldRun arg13 _ _ _ _ (fun r d =>
    (run7_at (invp := _)
      (qt := _)
      (q := _)
      (K := k0_pay4 (F := Ideal) i x4)
      (V := k0_pay5 (F := Ideal) i x5)
      (osc := _)
      (qs := ![(kernelRun0_B.sl.r_104 c i arg2 harg2 x0), (kernelRun0_B.sl.r_105 c i arg2 harg2 x0), (kernelRun0_B.sl.r_106 c i arg2 harg2 x0), (kernelRun0_B.sl.r_107 c i arg2 harg2 x0)])
      (ks := ![(kernelRun0_B.sl.r_11 c i arg3 harg3 x1), (kernelRun0_B.sl.r_19 c i arg3 harg3 x1), (kernelRun0_B.sl.r_33 c i arg3 harg3 x1), (kernelRun0_B.sl.r_47 c i arg3 harg3 x1), (kernelRun0_B.sl.r_61 c i arg3 harg3 x1), (kernelRun0_B.sl.r_78 c i arg3 harg3 x1), (kernelRun0_B.sl.r_101 c i arg3 harg3 x1), (kernelRun0_B.sl.r_125 c i arg3 harg3 x1)])
      (k0 := _)
      (k2 := _)
      (k4 := _)
      (k6 := _)
      (h0 := rows256 arg11 _ _ (congrArg (k0_pay4 (F := Ideal) i) (ldWhole arg6 harg6 x4 _)) 0 0 rfl _ _)
      (h2 := rows256 arg11 _ _ (congrArg (k0_pay4 (F := Ideal) i) (ldWhole arg6 harg6 x4 _)) 2 256 rfl _ _)
      (h4 := rows256 arg11 _ _ (congrArg (k0_pay4 (F := Ideal) i) (ldWhole arg6 harg6 x4 _)) 4 512 rfl _ _)
      (h6 := rows256 arg11 _ _ (congrArg (k0_pay4 (F := Ideal) i) (ldWhole arg6 harg6 x4 _)) 6 768 rfl _ _)
      (hqt := fun s l => qt_at (kernelRun0_B.sl.r_104 c i arg2 harg2 x0) (kernelRun0_B.sl.r_105 c i arg2 harg2 x0) (kernelRun0_B.sl.r_106 c i arg2 harg2 x0) (kernelRun0_B.sl.r_107 c i arg2 harg2 x0) kernelRun0_B.sl.r_3 s l (head_at s l))
      (v := _)
      (hv := fun k d => ldRows_at (N := 1024) arg12 _ _ (congrArg (k0_pay5 (F := Ideal) i) (ldWhole arg7 harg7 x5 _)) 0 _ _ k d _ (Nat.zero_add _).symm) (r := r) (d := d)).trans
    (runAt_eq 7 r d (congrArg (k0_pay6 (F := Ideal)) (ld1_at arg4 harg4 x2 _ _))
      (ldQ_kept arg10 harg10 xs0 _ _ (i 1) 7 (off_w i 7))
      (qs_eq x0 _ 7 _ _ _ _ _ (ld3_at arg2 harg2 x0 _ _ _ _ _ _ (off_q7 i 0)) (ld3_at arg2 harg2 x0 _ _ _ _ _ _ (off_q7 i 1)) (ld3_at arg2 harg2 x0 _ _ _ _ _ _ (off_q7 i 2)) (ld3_at arg2 harg2 x0 _ _ _ _ _ _ (off_q7 i 3)))
      (ks_B c i arg3 harg3 x1) (osc_B c i arg4 harg4 arg8 harg8 x2 x6))) B

/-- The block the point leaves: row `128 * n + a` of head `h` is row `4 * a + h` of run `n`. -/
theorem out_B (hc0 : ¬cond0_0 i) : out0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0
    = blockOf (runOut i x0 x1 x2 xs0 x4 x5 x6) := by
  have pc := piece_at (runOut i x0 x1 x2 xs0 x4 x5 x6) arg13
  have e0 := o0_B c i arg2 harg2 arg3 harg3 arg4 harg4 arg6 harg6 arg7 harg7 arg8 harg8 arg10 harg10 arg11 arg12 arg13 x0 x1 x2 x4 x5 x6 xs0
  have e1 := o1_B c i arg2 harg2 arg3 harg3 arg4 harg4 arg6 harg6 arg7 harg7 arg8 harg8 arg10 harg10 arg11 arg12 arg13 x0 x1 x2 x4 x5 x6 xs0
  have e2 := o2_B c i arg2 harg2 arg3 harg3 arg4 harg4 arg6 harg6 arg7 harg7 arg8 harg8 arg10 harg10 arg11 arg12 arg13 x0 x1 x2 x4 x5 x6 xs0
  have e3 := o3_B c i arg2 harg2 arg3 harg3 arg4 harg4 arg6 harg6 arg7 harg7 arg8 harg8 arg10 harg10 arg11 arg12 arg13 x0 x1 x2 x4 x5 x6 xs0
  have e4 := o4_B c i arg2 harg2 arg3 harg3 arg4 harg4 arg6 harg6 arg7 harg7 arg8 harg8 arg10 harg10 arg11 arg12 arg13 x0 x1 x2 x4 x5 x6 xs0
  have e5 := o5_B c i arg2 harg2 arg3 harg3 arg4 harg4 arg6 harg6 arg7 harg7 arg8 harg8 arg10 harg10 arg11 arg12 arg13 x0 x1 x2 x4 x5 x6 xs0
  have e6 := o6_B c i arg2 harg2 arg3 harg3 arg4 harg4 arg6 harg6 arg7 harg7 arg8 harg8 arg10 harg10 arg11 arg12 arg13 x0 x1 x2 x4 x5 x6 xs0
  have e7 := o7_B c i arg2 harg2 arg3 harg3 arg4 harg4 arg6 harg6 arg7 harg7 arg8 harg8 arg10 harg10 arg11 arg12 arg13 x0 x1 x2 x4 x5 x6 xs0
  have hp : View.PiecesOf (blockOf (runOut i x0 x1 x2 xs0 x4 x5 x6)) (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0).1 :=
    ⟨fun x => pc _ 7 e7 3 (by decide) 896 384 rfl rfl (by decide) x,
     fun x => pc _ 7 e7 2 (by decide) 896 256 rfl rfl (by decide) x,
     fun x => pc _ 7 e7 1 (by decide) 896 128 rfl rfl (by decide) x,
     fun x => pc _ 7 e7 0 (by decide) 896 0 rfl rfl (by decide) x,
     fun x => pc _ 6 e6 3 (by decide) 768 384 rfl rfl (by decide) x,
     fun x => pc _ 6 e6 2 (by decide) 768 256 rfl rfl (by decide) x,
     fun x => pc _ 6 e6 1 (by decide) 768 128 rfl rfl (by decide) x,
     fun x => pc _ 6 e6 0 (by decide) 768 0 rfl rfl (by decide) x,
     fun x => pc _ 5 e5 3 (by decide) 640 384 rfl rfl (by decide) x,
     fun x => pc _ 5 e5 2 (by decide) 640 256 rfl rfl (by decide) x,
     fun x => pc _ 5 e5 1 (by decide) 640 128 rfl rfl (by decide) x,
     fun x => pc _ 5 e5 0 (by decide) 640 0 rfl rfl (by decide) x,
     fun x => pc _ 4 e4 3 (by decide) 512 384 rfl rfl (by decide) x,
     fun x => pc _ 4 e4 2 (by decide) 512 256 rfl rfl (by decide) x,
     fun x => pc _ 4 e4 1 (by decide) 512 128 rfl rfl (by decide) x,
     fun x => pc _ 4 e4 0 (by decide) 512 0 rfl rfl (by decide) x,
     fun x => pc _ 3 e3 3 (by decide) 384 384 rfl rfl (by decide) x,
     fun x => pc _ 3 e3 2 (by decide) 384 256 rfl rfl (by decide) x,
     fun x => pc _ 3 e3 1 (by decide) 384 128 rfl rfl (by decide) x,
     fun x => pc _ 3 e3 0 (by decide) 384 0 rfl rfl (by decide) x,
     fun x => pc _ 2 e2 3 (by decide) 256 384 rfl rfl (by decide) x,
     fun x => pc _ 2 e2 2 (by decide) 256 256 rfl rfl (by decide) x,
     fun x => pc _ 2 e2 1 (by decide) 256 128 rfl rfl (by decide) x,
     fun x => pc _ 2 e2 0 (by decide) 256 0 rfl rfl (by decide) x,
     fun x => pc _ 1 e1 3 (by decide) 128 384 rfl rfl (by decide) x,
     fun x => pc _ 1 e1 2 (by decide) 128 256 rfl rfl (by decide) x,
     fun x => pc _ 1 e1 1 (by decide) 128 128 rfl rfl (by decide) x,
     fun x => pc _ 1 e1 0 (by decide) 128 0 rfl rfl (by decide) x,
     fun x => pc _ 0 e0 3 (by decide) 0 384 rfl rfl (by decide) x,
     fun x => pc _ 0 e0 2 (by decide) 0 256 rfl rfl (by decide) x,
     fun x => pc _ 0 e0 1 (by decide) 0 128 rfl rfl (by decide) x,
     fun x => pc _ 0 e0 0 (by decide) 0 0 rfl rfl (by decide) x, trivial⟩
  unfold out0_B_7
  rw [View.read_writes_junk_eq_canon]
  funext y
  exact View.canon_apply_of_pieces _ _ hp.mem y (cover0_B_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 xs0 y)

end caseB

end Cert.KernelIdeal.Value
-- ==== Proof.Carried.lean ====
/- What every grid point leaves in the output block and in the repacked query codes it carries to the next point. -/
module

public import proofs.«01_k».proof.Proof.PointA
public import proofs.«01_k».proof.Proof.PointB
public import proofs.«01_k».proof.Proof.KernelIdealFrame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Every window's block index at grid point `t`: the batch is `t / 4`, the group of heads `t % 4`. -/
theorem idx : ∀ t : Fin cfg0.N, win0_0.index t = ![0, 0, 0] ∧ win0_1.index t = ![0, 0, 0] ∧ win0_2.index t = ![0]
    ∧ win0_3.index t = ![t.val / 4, 0, 0] ∧ win0_4.index t = ![t.val / 4, 0, 0] ∧ win0_5.index t = ![t.val / 4, 0, 0]
    ∧ win0_6.index t = ![0, 0] ∧ win0_7.index t = ![t.val / 4, 0, t.val % 4] ∧ t.val / 4 < 2 :=
  (by decide +kernel : ∀ t : Fin grid0.N, _)

/-- The grid point's two coordinates. -/
theorem coords_at : ∀ t : Fin cfg0.N, (grid0.coords t 0).val = t.val / 4 ∧ (grid0.coords t 1).val = t.val % 4 :=
  (by decide +kernel : ∀ t : Fin grid0.N, _)

/-- The block of query codes depends on the batch alone. -/
theorem iblk3_eq (c : Dev nD) (t u : Fin cfg0.N) (h : t.val / 4 = u.val / 4) : iblk m c 3 t = iblk m c 3 u := by
  funext y
  blk_simp [iblk]
  refine congrArg (V m c main_v1) ?_
  blk_ext [idx t, idx u, h]

/-- What the body leaves at a point: the output block, over the query codes of the point's batch repacked into words;
and those words, carried to the next point. -/
theorem outs_eq (c : Dev nD) : ∀ (n : ℕ) (t : Fin cfg0.N), t.val = n → outsAt0 m c t.val t.isLt
    = (blockOf (runOut (grid0.coords t) (iblk m c 0 t) (iblk m c 1 t) (iblk m c 2 t)
        (k0_pay3 (F := Ideal) (iblk m c 3 t)) (iblk m c 4 t) (iblk m c 5 t) (iblk m c 6 t)),
      k0_pay3 (F := Ideal) (iblk m c 3 t)) := by
  intro n
  induction n with
  | zero =>
    intro t ht
    rw [outsAt0_A m c t (by omega), out_A, sout_A]
  | succ n ih =>
    intro t ht
    by_cases h0 : t.val % 4 = 0
    · rw [outsAt0_A m c t h0, out_A, sout_A]
    · have e : (outsAt0 m c (t.val - 1) (lt_of_le_of_lt (Nat.sub_le _ _) t.isLt)).2 = k0_pay3 (F := Ideal) (iblk m c 3 t) := by
        refine (congrArg Prod.snd (ih ⟨t.val - 1, lt_of_le_of_lt (Nat.sub_le _ _) t.isLt⟩ (by show t.val - 1 = n; omega))).trans ?_
        exact congrArg (k0_pay3 (F := Ideal)) (iblk3_eq m c _ t (by show (t.val - 1) / 4 = t.val / 4; omega))
      rw [outsAt0_B m c t h0, out_B, e]
      unfold sout0_B_0
      rfl

end Cert.KernelIdeal.Value

end
-- ==== Proof.Spec.lean ====
/- The attention both programs compute, element by element, over the seven argument arrays. -/
module

public import proofs.«01_k».proof.Proof.Weights

@[expose] public section

set_option maxRecDepth 16384

noncomputable section

namespace Cert.Attn

open Idealize.ShloMosaic
open Cert.KernelIdeal.Value (code)

/-- The value of a code. -/
abbrev val (x : BitVec 8) : EReal := Ideal.ofBits .fp8e4m3 x

/-- Head `h` of group `g` among the sixteen heads. -/
def head (g h : Fin 4) : Fin 16 := ⟨g.val * 4 + h.val, by omega⟩

/-- Lane `d` of token `t`, head `h` of group `g`, batch `b`: the weights of the tokens up to `t` against the values of the
    group, scaled. -/
def attn (Q : (⟨4, ![2, 1024, 16, 128]⟩ : Shape).Idx → BitVec 8) (qs : (⟨3, ![2, 8, 16]⟩ : Shape).Idx → EReal)
    (K : (⟨4, ![2, 1024, 4, 128]⟩ : Shape).Idx → BitVec 8) (ks : (⟨3, ![2, 8, 4]⟩ : Shape).Idx → EReal)
    (V : (⟨4, ![2, 1024, 4, 128]⟩ : Shape).Idx → BitVec 8) (vs : (⟨2, ![4, 128]⟩ : Shape).Idx → EReal) (p : EReal)
    (b : Fin 2) (t : Fin 1024) (g h : Fin 4) (d : Fin 128) : EReal :=
  (∑ k : Fin 1024, code (Ideal.div 1 p) (k.val ≤ t.val) (∑ c : Fin 128, val (Q (ix4 b t (head g h) c)) * val (K (ix4 b k g c)))
      (qs (ix3 b ⟨t.val / 128, by omega⟩ (head g h))) (ks (ix3 b ⟨k.val / 128, by omega⟩ g)) * val (V (ix4 b k g d)))
    * (p * vs (ix2 g d))

/-- The whole result: column `512 g + 128 h + d` of a row. -/
def result (Q : (⟨4, ![2, 1024, 16, 128]⟩ : Shape).Idx → BitVec 8) (qs : (⟨3, ![2, 8, 16]⟩ : Shape).Idx → EReal)
    (K : (⟨4, ![2, 1024, 4, 128]⟩ : Shape).Idx → BitVec 8) (ks : (⟨3, ![2, 8, 4]⟩ : Shape).Idx → EReal)
    (V : (⟨4, ![2, 1024, 4, 128]⟩ : Shape).Idx → BitVec 8) (vs : (⟨2, ![4, 128]⟩ : Shape).Idx → EReal) (p : EReal)
    (y : (⟨3, ![2, 1024, 2048]⟩ : Shape).Idx) : EReal :=
  attn Q qs K ks V vs p (y 0) (y 1) ⟨(y 2).val / 512, by have : (y 2).val < 2048 := (y 2).isLt; omega⟩
    ⟨(y 2).val / 128 % 4, by omega⟩ ⟨(y 2).val % 128, Nat.mod_lt _ (by decide)⟩

end Cert.Attn

end
-- ==== Proof.Bytes.lean ====
/- The codes the kernel packs into words and takes out again: byte `g` of word `k` of a column is row `4 k + g` of the column. -/
module

public import proofs.«01_k».proof.Proof.Loads
public import proofs.«01_k».proof.Proof.Spec
public import Idealize.ShloMosaic.Lib.BitcastFour
public import Idealize.ShloMosaic.Lib.WordCmp

@[expose] public section

set_option maxRecDepth 16384

noncomputable section

namespace Cert.KernelIdeal.Value

open Idealize.ShloMosaic Idealize.ShloMosaic.TcCoe Idealize.SL.Sem
open Cert.KernelIdeal Cert.KernelIdeal.Gen

/-- Shifting word `k` right by `8 g` and keeping eight bits gives row `4 k + g` of the codes. -/
theorem byte_of_word (x : IVec S4096x128 8) (g : Fin 4) (k : Fin 1024) (c : Fin 128) :
    (IntOp.shrui .vector (bitcast S1024x128 32 x bitcasts_S4096x128_w8_S1024x128_w32 (ix2 k c)) (Scalar.muli 8#32 (BitVec.ofNat 32 g.val))).setWidth 8
      = x (ix2 ⟨4 * k.val + g.val, by omega⟩ c) := by
  have e : (Scalar.muli 8#32 (BitVec.ofNat 32 g.val)).toNat = 8 * g.val := by
    revert g
    decide
  apply BitVec.eq_of_getLsbD_eq
  intro q hq
  rw [IntOp.shrui, if_pos (by rw [e]; omega), BitVec.getLsbD_setWidth, BitVec.ushiftRight_eq', BitVec.getLsbD_ushiftRight, e]
  have h := bitcast_8_32_getLsbD_ix2 x bitcasts_S4096x128_w8_S1024x128_w32 k c (8 * g.val + q) (by omega)
    ⟨4 * k.val + g.val, by omega⟩ (by show 4 * k.val + g.val = 4 * k.val + (8 * g.val + q) / 8; omega)
  rw [show (8 * g.val + q) % 8 = q by omega] at h
  rw [decide_eq_true hq, Bool.true_and]
  exact h

/-- The codes of `k` of the point's group of heads. -/
theorem k_at (i : grid0.Coords) (g : Fin 4) (hg : (i 1).val = g.val) (x : Vec Ideal S1x4096x128 .i8) (k : Fin 1024) (c : Fin 128) :
    k0_pay4 (F := Ideal) i x (ix2 k c) = Attn.val (x (ix3 0 ⟨4 * k.val + g.val, by omega⟩ c)) := by
  unfold k0_pay4
  dsimp only
  rw [hg, shapeCast_id]
  refine congrArg (Ideal.ofBits .fp8e4m3) ((byte_of_word _ g k c).trans ?_)
  pointwise

/-- The codes of `v` of the point's group of heads. -/
theorem v_at (i : grid0.Coords) (g : Fin 4) (hg : (i 1).val = g.val) (x : Vec Ideal S1x4096x128 .i8) (k : Fin 1024) (c : Fin 128) :
    k0_pay5 (F := Ideal) i x (ix2 k c) = Attn.val (x (ix3 0 ⟨4 * k.val + g.val, by omega⟩ c)) := k_at i g hg x k c

/-- Words taken apart: row `r` of the bytes is byte `r % 4` of word `r / 4`. -/
theorem word_byte (w : IVec S128x128 32) (r : Fin 512) (c : Fin 128) (q : ℕ) (hq : q < 8) :
    (bitcast S512x128 8 w bitcasts_S128x128_w32_S512x128_w8 (ix2 r c)).getLsbD q = (w (ix2 ⟨r.val / 4, by omega⟩ c)).getLsbD (8 * (r.val % 4) + q) := by
  rw [bitcast_getLsbD w bitcasts_S128x128_w32_S512x128_w8 (ix2 r c) q hq (by decide)]
  have er : (Shape.row (s := S512x128) (ix2 r c) * 8 + q) / 32 = r.val / 4 := by show (r.val * 8 + q) / 32 = _; omega
  have em : (Shape.row (s := S512x128) (ix2 r c) * 8 + q) % 32 = 8 * (r.val % 4) + q := by show (r.val * 8 + q) % 32 = _; omega
  rw [em]
  congr 2
  funext a
  match a with
  | ⟨0, _⟩ => exact Fin.ext ((Shape.Bitcasts.srcIdx_row _ _ _ _ ⟨0, Nat.zero_lt_two⟩ rfl).trans er)
  | ⟨1, _⟩ => exact Fin.ext (Shape.Bitcasts.srcIdx_other _ _ _ _ ⟨1, Nat.one_lt_two⟩ (by show ¬ 1 + 2 = 2; omega))

/-- The codes of `q` of run `n` and group `g`: row `r` is token `128 n + r / 4`, head `r % 4` of the group. -/
theorem q_at (x : Vec Ideal S1x16384x128 .i8) (g : Fin 4) (n : Fin 8) (r : Fin 512) (c : Fin 128) :
    qRows (k0_pay3 (F := Ideal) x) g n (ix2 r c) = Attn.val (x (ix3 0 ⟨2048 * n.val + 16 * (r.val / 4) + 4 * g.val + r.val % 4, by omega⟩ c)) := by
  unfold qRows k0_pay10
  dsimp only
  refine congrArg (Ideal.ofBits .fp8e4m3) ?_
  apply BitVec.eq_of_getLsbD_eq
  intro q hq
  refine (word_byte _ r c q hq).trans ?_
  show (k0_pay3 (F := Ideal) x (ix2 ⟨512 * n.val + g.val + 4 * (r.val / 4), by omega⟩ c)).getLsbD (8 * (r.val % 4) + q) = _
  unfold k0_pay3
  rw [shapeCast_id]
  refine (bitcast_8_32_getLsbD_ix2 _ bitcasts_S16384x128_w8_S4096x128_w32 ⟨512 * n.val + g.val + 4 * (r.val / 4), by omega⟩ c
    (8 * (r.val % 4) + q) (by omega) ⟨2048 * n.val + 16 * (r.val / 4) + 4 * g.val + r.val % 4, by omega⟩
    (by show 2048 * n.val + 16 * (r.val / 4) + 4 * g.val + r.val % 4 = 4 * (512 * n.val + g.val + 4 * (r.val / 4)) + (8 * (r.val % 4) + q) / 8; omega)).trans ?_
  rw [show (8 * (r.val % 4) + q) % 8 = q by omega]
  congr 1
  pointwise

end Cert.KernelIdeal.Value

end
-- ==== Proof.KernelIdealValue.lean ====
/- The kernel's result array after the run, at every index. -/
module

public import proofs.«01_k».proof.Proof.Carried
public import proofs.«01_k».proof.Proof.Bytes

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

/-- One element of a grid point's output, from the codes and scales its blocks hold. -/
theorem runOut_at (i : grid0.Coords) (x0 : Vec Ideal S2x8x16 .f32) (x1 : Vec Ideal S2x8x4 .f32) (x2 : Vec Ideal S1 .f32)
    (x3 : Vec Ideal S1x16384x128 .i8) (x4 x5 : Vec Ideal S1x4096x128 .i8) (x6 : Vec Ideal S4x128 .f32)
    (Q : Vec Ideal S2x1024x16x128 .i8) (qs : Vec Ideal S2x8x16 .f32) (K : Vec Ideal S2x1024x4x128 .i8) (ks : Vec Ideal S2x8x4 .f32)
    (V : Vec Ideal S2x1024x4x128 .i8) (vs : Vec Ideal S4x128 .f32) (p : EReal) (b : Fin 2) (g : Fin 4) (hb : i 0 = b) (hg : i 1 = g)
    (h0 : x0 = qs) (h1 : x1 = ks) (h2 : x2 (ix1 0) = p)
    (h3 : ∀ (t : Fin 1024) (h : Fin 16) (c : Fin 128) (a : Fin 16384), a.val = 16 * t.val + h.val → x3 (ix3 0 a c) = Q (ix4 b t h c))
    (h4 : ∀ (t : Fin 1024) (h : Fin 4) (c : Fin 128) (a : Fin 4096), a.val = 4 * t.val + h.val → x4 (ix3 0 a c) = K (ix4 b t h c))
    (h5 : ∀ (t : Fin 1024) (h : Fin 4) (c : Fin 128) (a : Fin 4096), a.val = 4 * t.val + h.val → x5 (ix3 0 a c) = V (ix4 b t h c))
    (h6 : x6 = vs) (n : Fin 8) (r : Fin 512) (d : Fin 128) (t : Fin 1024) (h : Fin 4) (ht : t.val = 128 * n.val + r.val / 4) (hh : h.val = r.val % 4) :
    runOut i x0 x1 x2 (k0_pay3 (F := Ideal) x3) x4 x5 x6 n r d = Attn.attn Q qs K ks V vs p b t g h d := by
  subst h0 h1 h6
  have eh : hcol g h = Attn.head g h := Fin.ext (by show 4 * g.val + h.val = g.val * 4 + h.val; omega)
  have en : (⟨t.val / 128, by omega⟩ : Fin 8) = n := Fin.ext (by show t.val / 128 = n.val; omega)
  have er : (⟨r.val % 4, Nat.mod_lt _ (by decide)⟩ : Fin 4) = h := Fin.ext hh.symm
  unfold runOut runAt Attn.attn
  rw [hb, hg]
  refine congrArg₂ (· * ·) (Finset.sum_congr rfl fun k _ => congrArg₂ (· * ·) ?_ ?_) ?_
  · unfold wt
    dsimp only
    rw [er, eh, en, ← ht]
    have es : (∑ c : Fin 128, qRows (k0_pay3 (F := Ideal) x3) g n (ix2 r c) * k0_pay4 (F := Ideal) i x4 (ix2 k c))
        = ∑ c : Fin 128, Attn.val (Q (ix4 b t (Attn.head g h) c)) * Attn.val (K (ix4 b k g c)) :=
      Finset.sum_congr rfl fun c _ => congrArg₂ (· * ·)
        ((q_at x3 g n r c).trans (congrArg Attn.val (h3 t (Attn.head g h) c _ (by
          show 2048 * n.val + 16 * (r.val / 4) + 4 * g.val + r.val % 4 = 16 * t.val + (g.val * 4 + h.val); omega))))
        ((k_at i g (congrArg Fin.val hg) x4 k c).trans (congrArg Attn.val (h4 k g c _ rfl)))
    rw [es]
    have ei : k0_pay6 (F := Ideal) (x2 (ix1 0)) = Ideal.div 1 p := by
      rw [h2]
      unfold k0_pay6
      exact congrArg (Ideal.div · p) Ideal.ofBits_one_f32
    rw [ei]
  · exact (v_at i g (congrArg Fin.val hg) x5 k d).trans (congrArg Attn.val (h5 k g d _ rfl))
  · rw [h2]
    pointwise [k0_pay7]

variable (m : (ℓ : Loc nD τ sig) → Buf (Elt Ideal) ℓ)

/-- The kernel's result array after the run. -/
theorem final (c : Dev nD) : (dats m 0 c).arrAt 7 cfg0.N
    = Attn.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6) ix0) := by
  refine (dats m 0 c).arrAt_eq_of_covers 7 _ (by decide +kernel) fun t _ y => ?_
  have e0 : iblk m c 0 t = m ((c : Thread nD τ).loc main_arg1) := by blk_ext! [iblk, V, idx t]
  have e1 : iblk m c 1 t = m ((c : Thread nD τ).loc main_arg3) := by blk_ext! [iblk, V, idx t]
  have e6 : iblk m c 6 t = m ((c : Thread nD τ).loc main_arg5) := by blk_ext! [iblk, V, idx t]
  have e2 : (show Vec Ideal S1 .f32 from iblk m c 2 t) (ix1 0) = m ((c : Thread nD τ).loc main_arg6) ix0 := by
    blk_simp [iblk]
    entry_read
    pointwise
  have hb : t.val / 4 < 2 := (idx t).2.2.2.2.2.2.2.2
  have e3 : ∀ (u : Fin 1024) (h : Fin 16) (l : Fin 128) (a : Fin 16384), a.val = 16 * u.val + h.val →
      (show Vec Ideal S1x16384x128 .i8 from iblk m c 3 t) (ix3 0 a l) = m ((c : Thread nD τ).loc main_arg0) (ix4 ⟨t.val / 4, hb⟩ u h l) := by
    intro u h l a ha
    blk_simp [iblk]
    refine (congrArg (V m c main_v1) (show _ = ix3 (⟨t.val / 4, hb⟩ : Fin 2) a l from by blk_ext [idx t])).trans ?_
    entry_read
    pointwise
    have q : a.val / 16 = u.val := by omega
    have r : a.val % 16 = h.val := by omega
    blk_ext [q, r]
  have e4 : ∀ (u : Fin 1024) (h : Fin 4) (l : Fin 128) (a : Fin 4096), a.val = 4 * u.val + h.val →
      (show Vec Ideal S1x4096x128 .i8 from iblk m c 4 t) (ix3 0 a l) = m ((c : Thread nD τ).loc main_arg2) (ix4 ⟨t.val / 4, hb⟩ u h l) := by
    intro u h l a ha
    blk_simp [iblk]
    refine (congrArg (V m c main_v2) (show _ = ix3 (⟨t.val / 4, hb⟩ : Fin 2) a l from by blk_ext [idx t])).trans ?_
    entry_read
    pointwise
    have q : a.val / 4 = u.val := by omega
    have r : a.val % 4 = h.val := by omega
    blk_ext [q, r]
  have e5 : ∀ (u : Fin 1024) (h : Fin 4) (l : Fin 128) (a : Fin 4096), a.val = 4 * u.val + h.val →
      (show Vec Ideal S1x4096x128 .i8 from iblk m c 5 t) (ix3 0 a l) = m ((c : Thread nD τ).loc main_arg4) (ix4 ⟨t.val / 4, hb⟩ u h l) := by
    intro u h l a ha
    blk_simp [iblk]
    refine (congrArg (V m c main_v3) (show _ = ix3 (⟨t.val / 4, hb⟩ : Fin 2) a l from by blk_ext [idx t])).trans ?_
    entry_read
    pointwise
    have q : a.val / 4 = u.val := by omega
    have r : a.val % 4 = h.val := by omega
    blk_ext [q, r]
  obtain ⟨y0, s, l, rfl⟩ : ∃ (y0 : Fin 1) (s : Fin 1024) (l : Fin 512), y = ix3 y0 s l := ⟨y 0, y 1, y 2, eq_ix3 y⟩
  have ey : ((cfg0.win 7).blk t).view.emb (ix3 y0 s l)
      = ix3 (⟨t.val / 4, hb⟩ : Fin 2) s (⟨t.val % 4 * 512 + l.val, by omega⟩ : Fin 2048) := by blk_ext [idx t]
  rw [ey]
  blk_simp
  rw [after0_7, outs_eq m c t.val t rfl]
  have hg : t.val % 4 < 4 := Nat.mod_lt _ (by decide)
  refine (runOut_at (grid0.coords t) _ _ _ _ _ _ _ _ _ _ _ _ _ _ ⟨t.val / 4, hb⟩ ⟨t.val % 4, hg⟩ (Fin.ext (coords_at t).1) (Fin.ext (coords_at t).2)
    e0 e1 e2 e3 e4 e5 e6 _ _ _ s ⟨l.val / 128, by omega⟩ ?_ ?_).trans ?_
  · show s.val = 128 * (s.val / 128) + (s.val % 128 * 4 + l.val / 128) / 4
    omega
  · show l.val / 128 = (s.val % 128 * 4 + l.val / 128) % 4
    omega
  · unfold Attn.result
    have q1 : (⟨t.val % 4, hg⟩ : Fin 4) = ⟨(t.val % 4 * 512 + l.val) / 512, by omega⟩ := Fin.ext (by show t.val % 4 = (t.val % 4 * 512 + l.val) / 512; omega)
    have q2 : (⟨l.val / 128, by omega⟩ : Fin 4) = ⟨(t.val % 4 * 512 + l.val) / 128 % 4, by omega⟩ :=
      Fin.ext (by show l.val / 128 = (t.val % 4 * 512 + l.val) / 128 % 4; omega)
    have q3 : (⟨l.val % 128, Nat.mod_lt _ (by decide)⟩ : Fin 128) = ⟨(t.val % 4 * 512 + l.val) % 128, Nat.mod_lt _ (by decide)⟩ :=
      Fin.ext (by show l.val % 128 = (t.val % 4 * 512 + l.val) % 128; omega)
    exact congr (congr (congrArg _ q1) q2) q3

variable (ρ : Dev nD → PrngReg)

/-- The run, its result array named and its arguments as launched. -/
theorem run : θ_run defs (onTc (τ := τ) (main (F := Ideal))) ⟨m, fun _ => 0, ρ⟩ fun r => ∀ c : Dev nD,
      r.2.mem ((c : Thread nD τ).loc main_v4) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h.2 c).1 7, h.1 c⟩) (θ_run_and (unchanged m ρ) (run_main m ρ))

end Cert.KernelIdeal.Value

end
-- ==== Proof.ReferenceValue.lean ====
/- What the reference computes, at an index. -/
module

public import proofs.«01_k».proof.Proof.Spec
public import proofs.«01_k».proof.Proof.Gen.ReferenceIdeal.Value
public import Idealize.ShloMosaic.Lib.Pipeline.ValueKit
public import Idealize.ShloMosaic.Lib.WordCmp

@[expose] public section

set_option maxRecDepth 16384

noncomputable section

namespace Cert.ReferenceIdeal.Value

open Idealize.ShloMosaic Idealize.ShloMosaic.TcCoe Idealize.SL.Sem
open Idealize.ShloMosaic.Pipeline (Dat)
open Cert.ReferenceIdeal Cert.ReferenceIdeal.Gen
open Cert.KernelIdeal.Value (code)

/-- The scores with their query scales. -/
theorem score_at (x0 : Vec Ideal S2x1024x16x128 .i8) (x2 : Vec Ideal S2x1024x4x128 .i8) (x1 : Vec Ideal S2x8x16 .f32)
    (b : Fin 2) (g h : Fin 4) (t k : Fin 1024) :
    k0_pay5 (F := Ideal) x0 x2 x1 (ix5 b g h t k)
      = (∑ c : Fin 128, Attn.val (x0 (ix4 b t (Attn.head g h) c)) * Attn.val (x2 (ix4 b k g c))) * x1 (ix3 b ⟨t.val / 128, by omega⟩ (Attn.head g h)) := by
  pointwise [k0_pay5, Attn.val, Attn.head]

/-- The key scales. -/
theorem kscale_at (x3 : Vec Ideal S2x8x4 .f32) (b : Fin 2) (g : Fin 4) (k : Fin 1024) :
    k0_pay3 (F := Ideal) x3 (ix3 b g k) = x3 (ix3 b ⟨k.val / 128, by omega⟩ g) * Ideal.ofBits .f32 0x3DB504F3#32 := by
  pointwise [k0_pay3]

/-- The value codes. -/
theorem value_at (x4 : Vec Ideal S2x1024x4x128 .i8) (b : Fin 2) (g : Fin 4) (k : Fin 1024) (d : Fin 128) :
    k0_pay2 (F := Ideal) x4 (ix4 b g k d) = Attn.val (x4 (ix4 b k g d)) := by
  pointwise [k0_pay2, Attn.val]

/-- The scales of the result. -/
theorem oscale_at (x6 : Vec Ideal S1x1 .f32) (x5 : Vec Ideal S4x128 .f32) (g h : Fin 4) (d : Fin 128) :
    k0_pay4 (F := Ideal) x6 x5 (ix4 g h 0 d) = x6 (ix2 0 0) * x5 (ix2 g d) := by
  pointwise [k0_pay4]

/-- The last payload, over any scores and scales. -/
theorem last_at (v9 : FVec Ideal S2x4x1024x128 .fp8e4m3) (v22 : FVec Ideal S2x4x1024 .f32) (v31 : FVec Ideal S4x4x1x128 .f32)
    (v35 : FVec Ideal S2x4x4x1024x1024 .f32) (x6 : Vec Ideal S1x1 .f32) (b : Fin 2) (t : Fin 1024) (l : Fin 2048) :
    k0_pay1 (F := Ideal) v9 v22 v31 v35 x6 (ix3 b t l)
      = (∑ k : Fin 1024, min (Ideal.ofBits .f32 0x43E00000#32) (max 0
          ((if k.val ≤ t.val then Ideal.logistic (v35 (ix5 b ⟨l.val / 512, by omega⟩ ⟨l.val / 128 % 4, by omega⟩ t k) * v22 (ix3 b ⟨l.val / 512, by omega⟩ k)
            + Ideal.ofBits .f32 0xC0DDCE9E#32) else 0) * Ideal.div 1 (x6 (ix2 0 0))))
          * v9 (ix4 b ⟨l.val / 512, by omega⟩ k ⟨l.val % 128, by omega⟩))
        * v31 (ix4 ⟨l.val / 512, by omega⟩ ⟨l.val / 128 % 4, by omega⟩ 0 ⟨l.val % 128, by omega⟩) := by
  pointwise [k0_pay1]
  refine congrArg (· * _) (Finset.sum_congr rfl fun k _ => ?_)
  rw [WordCmp.cmpi_sle_ofNat (by omega) (by omega)]
  by_cases hk : k.val ≤ t.val <;> simp [hk, Scalar.select]

/-- The reference's result, over the seven arrays. -/
theorem result_eq (x0 : Vec Ideal S2x1024x16x128 .i8) (x1 : Vec Ideal S2x8x16 .f32) (x2 : Vec Ideal S2x1024x4x128 .i8)
    (x3 : Vec Ideal S2x8x4 .f32) (x4 : Vec Ideal S2x1024x4x128 .i8) (x5 : Vec Ideal S4x128 .f32) (x6 : Vec Ideal S1x1 .f32) :
    k0_pay1 (F := Ideal) (k0_pay2 (F := Ideal) x4) (k0_pay3 (F := Ideal) x3) (k0_pay4 (F := Ideal) x6 x5) (k0_pay5 (F := Ideal) x0 x2 x1) x6
      = Attn.result x0 x1 x2 x3 x4 x5 (x6 (ix2 0 0)) := by
  funext y
  obtain ⟨b, t, l, rfl⟩ : ∃ (b : Fin 2) (t : Fin 1024) (l : Fin 2048), y = ix3 b t l := ⟨y 0, y 1, y 2, eq_ix3 y⟩
  refine (last_at _ _ _ _ x6 b t l).trans ?_
  unfold Attn.result Attn.attn code
  refine congrArg₂ (· * ·) (Finset.sum_congr rfl fun k _ => ?_) (oscale_at x6 x5 _ _ _)
  rw [score_at, kscale_at, value_at, mul_assoc]
  rfl

variable (m : (ℓ : Loc nD τ sig) → Buf (Elt Ideal) ℓ)

/-- Every window's block index at the only point. -/
theorem idx : ∀ t : Fin cfg0.N, win0_0.index t = ![0, 0, 0, 0] ∧ win0_1.index t = ![0, 0, 0] ∧ win0_2.index t = ![0, 0, 0, 0]
    ∧ win0_3.index t = ![0, 0, 0] ∧ win0_4.index t = ![0, 0, 0, 0] ∧ win0_5.index t = ![0, 0] ∧ win0_6.index t = ![0, 0]
    ∧ win0_7.index t = ![0, 0, 0] :=
  (by decide +kernel : ∀ t : Fin grid0.N, _)

/-- The reference's result array after the run. -/
theorem final (c : Dev nD) : (dats m 0 c).arrAt 7 cfg0.N
    = Attn.result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6) ix0) := by
  have e0 : iblk m c 0 t0_0 = m ((c : Thread nD τ).loc main_arg0) := by blk_ext! [iblk, V, idx t0_0]
  have e1 : iblk m c 1 t0_0 = m ((c : Thread nD τ).loc main_arg1) := by blk_ext! [iblk, V, idx t0_0]
  have e2 : iblk m c 2 t0_0 = m ((c : Thread nD τ).loc main_arg2) := by blk_ext! [iblk, V, idx t0_0]
  have e3 : iblk m c 3 t0_0 = m ((c : Thread nD τ).loc main_arg3) := by blk_ext! [iblk, V, idx t0_0]
  have e4 : iblk m c 4 t0_0 = m ((c : Thread nD τ).loc main_arg4) := by blk_ext! [iblk, V, idx t0_0]
  have e5 : iblk m c 5 t0_0 = m ((c : Thread nD τ).loc main_arg5) := by blk_ext! [iblk, V, idx t0_0]
  have e6 : (show Vec Ideal S1x1 .f32 from iblk m c 6 t0_0) (ix2 0 0) = m ((c : Thread nD τ).loc main_arg6) ix0 := by
    blk_simp [iblk]
    entry_read
    pointwise
  refine (dats m 0 c).arrAt_eq_of_after_last 7 t0_0 (by decide +kernel) _ fun j => ?_
  blk_simp
  rw [after0_7]
  frame_out
  rw [e0, e1, e2, e3, e4, e5]
  refine (congrFun (result_eq ..) _).trans ?_
  rw [← e6]

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.KernelFrame
public import proofs.«01_k».proof.Proof.KernelIdealFrame
public import proofs.«01_k».proof.Proof.KernelIdealValue
public import proofs.«01_k».proof.Proof.ReferenceValue
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, fun m ρ _ => Cert.ReferenceIdeal.Gen.frame m ρ, ?_⟩
  refine ⟨trivial, fun m g m' g' _ e => ?_⟩
  refine ⟨fun c => (Cert.KernelIdeal.Gen.dats m 0 c).arrAt 7 Cert.KernelIdeal.cfg0.N, Cert.KernelIdeal.Value.run m g, ?_⟩
  refine (θ_run Cert.ReferenceIdeal.defs _ _).mono (fun r h c => ⟨(h c).1.trans ?_, (h c).2⟩) (Cert.ReferenceIdeal.Value.run_blocks m' g')
  refine ((Cert.ReferenceIdeal.Value.final m' c).trans ?_).trans (Cert.KernelIdeal.Value.final m c).symm
  obtain ⟨e0, e1, e2, e3, e4, e5, e6⟩ := e c
  rw [e0, e1, e2, e3, e4, e5, e6]⟩

end Cert.Proof

end
